-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x10x300 : Shape := ⟨3, ![2048, 10, 300]⟩
abbrev S2048x8 : Shape := ⟨2, ![2048, 8]⟩
abbrev S2048x8x128 : Shape := ⟨3, ![2048, 8, 128]⟩
abbrev S8x300x64 : Shape := ⟨3, ![8, 300, 64]⟩
abbrev S8x64 : Shape := ⟨2, ![8, 64]⟩
abbrev S_ : Shape := ⟨0, ![]⟩
abbrev S2048x10x384 : Shape := ⟨3, ![2048, 10, 384]⟩
abbrev S2048x3840 : Shape := ⟨2, ![2048, 3840]⟩
abbrev S300x8x64 : Shape := ⟨3, ![300, 8, 64]⟩
abbrev S300x512 : Shape := ⟨2, ![300, 512]⟩
abbrev S384x512 : Shape := ⟨2, ![384, 512]⟩
abbrev S2048x10x64 : Shape := ⟨3, ![2048, 10, 64]⟩
abbrev S1x1 : Shape := ⟨2, ![1, 1]⟩
abbrev S2048x128 : Shape := ⟨2, ![2048, 128]⟩
abbrev S256x3840 : Shape := ⟨2, ![256, 3840]⟩
abbrev S256x8 : Shape := ⟨2, ![256, 8]⟩
abbrev S256x8x128 : Shape := ⟨3, ![256, 8, 128]⟩
abbrev S256x10x64 : Shape := ⟨3, ![256, 10, 64]⟩
abbrev S256x128 : Shape := ⟨2, ![256, 128]⟩
abbrev S256 : Shape := ⟨1, ![256]⟩
abbrev S256x1 : Shape := ⟨2, ![256, 1]⟩
abbrev S8x1024 : Shape := ⟨2, ![8, 1024]⟩
abbrev S256x1024 : Shape := ⟨2, ![256, 1024]⟩
abbrev S256x1x128 : Shape := ⟨3, ![256, 1, 128]⟩
abbrev S1x256x8 : Shape := ⟨3, ![1, 256, 8]⟩
abbrev S1 : Shape := ⟨1, ![1]⟩
abbrev S1x1x1 : Shape := ⟨3, ![1, 1, 1]⟩
abbrev S8x512 : Shape := ⟨2, ![8, 512]⟩
abbrev S256x512 : Shape := ⟨2, ![256, 512]⟩
abbrev S256x64 : Shape := ⟨2, ![256, 64]⟩
abbrev S512x64 : Shape := ⟨2, ![512, 64]⟩
abbrev S256x384 : Shape := ⟨2, ![256, 384]⟩
abbrev S256x1x64 : Shape := ⟨3, ![256, 1, 64]⟩
abbrev S256x2x64 : Shape := ⟨3, ![256, 2, 64]⟩

abbrev nBuf : Space → Nat
  | .hbm => 21
  | .vmem => 15
  | .smem => 0
  | _ => 0

abbrev bufTy : (tb : Table) → Fin (tcTables nBuf tb) → BufTy
  | .hbm, ⟨0, _⟩ => ⟨S2048x10x300, .f32⟩
  | .hbm, ⟨1, _⟩ => ⟨S2048x8, .f32⟩
  | .hbm, ⟨2, _⟩ => ⟨S2048x8, .i32⟩
  | .hbm, ⟨3, _⟩ => ⟨S2048x8x128, .f32⟩
  | .hbm, ⟨4, _⟩ => ⟨S8x300x64, .f32⟩
  | .hbm, ⟨5, _⟩ => ⟨S8x64, .f32⟩
  | .hbm, ⟨6, _⟩ => ⟨S2048x10x300, .bf16⟩
  | .hbm, ⟨7, _⟩ => ⟨S_, .i32⟩
  | .hbm, ⟨8, _⟩ => ⟨S_, .bf16⟩
  | .hbm, ⟨9, _⟩ => ⟨S2048x10x384, .bf16⟩
  | .hbm, ⟨10, _⟩ => ⟨S2048x3840, .bf16⟩
  | .hbm, ⟨11, _⟩ => ⟨S300x8x64, .f32⟩
  | .hbm, ⟨12, _⟩ => ⟨S300x512, .f32⟩
  | .hbm, ⟨13, _⟩ => ⟨S_, .i32⟩
  | .hbm, ⟨14, _⟩ => ⟨S_, .f32⟩
  | .hbm, ⟨15, _⟩ => ⟨S384x512, .f32⟩
  | .hbm, ⟨16, _⟩ => ⟨S384x512, .bf16⟩
  | .hbm, ⟨17, _⟩ => ⟨S2048x10x64, .bf16⟩
  | .hbm, ⟨18, _⟩ => ⟨S1x1, .f32⟩
  | .hbm, ⟨19, _⟩ => ⟨S2048x128, .f32⟩
  | .hbm, ⟨20, _⟩ => ⟨S_, .f32⟩
  | .local _ .vmem, ⟨0, _⟩ => ⟨S256x3840, .bf16⟩
  | .local _ .vmem, ⟨1, _⟩ => ⟨S256x3840, .bf16⟩
  | .local _ .vmem, ⟨2, _⟩ => ⟨S256x8, .f32⟩
  | .local _ .vmem, ⟨3, _⟩ => ⟨S256x8, .f32⟩
  | .local _ .vmem, ⟨4, _⟩ => ⟨S256x8, .i32⟩
  | .local _ .vmem, ⟨5, _⟩ => ⟨S256x8, .i32⟩
  | .local _ .vmem, ⟨6, _⟩ => ⟨S256x8x128, .f32⟩
  | .local _ .vmem, ⟨7, _⟩ => ⟨S256x8x128, .f32⟩
  | .local _ .vmem, ⟨8, _⟩ => ⟨S384x512, .bf16⟩
  | .local _ .vmem, ⟨9, _⟩ => ⟨S8x64, .f32⟩
  | .local _ .vmem, ⟨10, _⟩ => ⟨S256x10x64, .bf16⟩
  | .local _ .vmem, ⟨11, _⟩ => ⟨S256x10x64, .bf16⟩
  | .local _ .vmem, ⟨12, _⟩ => ⟨S1x1, .f32⟩
  | .local _ .vmem, ⟨13, _⟩ => ⟨S256x128, .f32⟩
  | .local _ .vmem, ⟨14, _⟩ => ⟨S256x128, .f32⟩
  | _, _ => ⟨S2048x10x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_c : Ref sig .tc := ⟨.hbm, 7, rfl⟩
abbrev main_call0_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_call1_v0 : Ref sig .tc := ⟨.hbm, 14, rfl⟩
abbrev main_call0_v5 : Ref sig .tc := ⟨.hbm, 15, rfl⟩
abbrev main_call0_v6 : Ref sig .tc := ⟨.hbm, 16, rfl⟩
abbrev main_v0_0 : Ref sig .tc := ⟨.hbm, 17, rfl⟩
abbrev main_call0_v7_1 : Ref sig .tc := ⟨.hbm, 18, rfl⟩
abbrev main_v0_2 : Ref sig .tc := ⟨.hbm, 19, rfl⟩
abbrev main_v0_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_27 : BitVec 32 := 0#32
  let v137 : BitVec 1 := Scalar.cmpi .eq arg0 c0_i32_27
  let v138 : BitVec 32 := Scalar.extui v137
  let c0_i32_28 : BitVec 32 := 0#32
  let v139 : BitVec 1 := Scalar.cmpi .ne v138 c0_i32_28
  v139

def k0_cond2 (i : grid0.Coords) : BitVec 1 :=
  let arg0 : BitVec 32 := BitVec.ofNat 32 (i 0).val
  let c0_i32_29 : BitVec 32 := 0#32
  let v140 : BitVec 1 := Scalar.cmpi .ne arg0 c0_i32_29
  let v141 : BitVec 32 := Scalar.extui v140
  let c0_i32_30 : BitVec 32 := 0#32
  let v142 : BitVec 1 := Scalar.cmpi .ne v141 c0_i32_30
  v142

def k0_cond3 (i : grid0.Coords) : BitVec 1 :=
  let arg0 : BitVec 32 := BitVec.ofNat 32 (i 0).val
  let c7_i32 : BitVec 32 := 7#32
  let v143 : BitVec 1 := Scalar.cmpi .eq arg0 c7_i32
  let v144 : BitVec 32 := Scalar.extui v143
  let c0_i32_31 : BitVec 32 := 0#32
  let v145 : BitVec 1 := Scalar.cmpi .ne v144 c0_i32_31
  v145

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3840 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S384x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x10x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S2048x10x300 : Shape := ⟨3, ![2048, 10, 300]⟩
abbrev S2048x8 : Shape := ⟨2, ![2048, 8]⟩
abbrev S2048x8x128 : Shape := ⟨3, ![2048, 8, 128]⟩
abbrev S8x300x64 : Shape := ⟨3, ![8, 300, 64]⟩
abbrev S8x64 : Shape := ⟨2, ![8, 64]⟩
abbrev S_ : Shape := ⟨0, ![]⟩
abbrev S2048 : Shape := ⟨1, ![2048]⟩
abbrev S2048x1 : Shape := ⟨2, ![2048, 1]⟩
abbrev S2048x8x1 : Shape := ⟨3, ![2048, 8, 1]⟩
abbrev S2048x128 : Shape := ⟨2, ![2048, 128]⟩
abbrev S2048x2 : Shape := ⟨2, ![2048, 2]⟩
abbrev S2048x2x1 : Shape := ⟨3, ![2048, 2, 1]⟩
abbrev S2048x2x2 : Shape := ⟨3, ![2048, 2, 2]⟩
abbrev S8x64x2048x10 : Shape := ⟨4, ![8, 64, 2048, 10]⟩
abbrev S8x2048x10x64 : Shape := ⟨4, ![8, 2048, 10, 64]⟩
abbrev S8x1x1x64 : Shape := ⟨4, ![8, 1, 1, 64]⟩
abbrev S2048x10x64 : Shape := ⟨3, ![2048, 10, 64]⟩

abbrev nBuf : Space → Nat
  | .hbm => 100
  | .vmem => 0
  | .smem => 0
  | _ => 0

abbrev bufTy : (tb : Table) → Fin (tcTables nBuf tb) → BufTy
  | .hbm, ⟨0, _⟩ => ⟨S2048x10x300, .f32⟩
  | .hbm, ⟨1, _⟩ => ⟨S2048x8, .f32⟩
  | .hbm, ⟨2, _⟩ => ⟨S2048x8, .i32⟩
  | .hbm, ⟨3, _⟩ => ⟨S2048x8x128, .f32⟩
  | .hbm, ⟨4, _⟩ => ⟨S8x300x64, .f32⟩
  | .hbm, ⟨5, _⟩ => ⟨S8x64, .f32⟩
  | .hbm, ⟨6, _⟩ => ⟨S_, .i32⟩
  | .hbm, ⟨7, _⟩ => ⟨S2048x8, .i32⟩
  | .hbm, ⟨8, _⟩ => ⟨S2048x8, .i1⟩
  | .hbm, ⟨9, _⟩ => ⟨S_, .f32⟩
  | .hbm, ⟨10, _⟩ => ⟨S2048x8, .f32⟩
  | .hbm, ⟨11, _⟩ => ⟨S_, .f32⟩
  | .hbm, ⟨12, _⟩ => ⟨S2048x8, .f32⟩
  | .hbm, ⟨13, _⟩ => ⟨S2048x8, .f32⟩
  | .hbm, ⟨14, _⟩ => ⟨S_, .f32⟩
  | .hbm, ⟨15, _⟩ => ⟨S2048, .f32⟩
  | .hbm, ⟨16, _⟩ => ⟨S_, .f32⟩
  | .hbm, ⟨17, _⟩ => ⟨S2048, .f32⟩
  | .hbm, ⟨18, _⟩ => ⟨S2048, .f32⟩
  | .hbm, ⟨19, _⟩ => ⟨S2048x1, .f32⟩
  | .hbm, ⟨20, _⟩ => ⟨S2048x8, .f32⟩
  | .hbm, ⟨21, _⟩ => ⟨S2048x8, .f32⟩
  | .hbm, ⟨22, _⟩ => ⟨S2048x8, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S2048x8, .f32⟩
  | .hbm, ⟨27, _⟩ => ⟨S2048x8, .f32⟩
  | .hbm, ⟨28, _⟩ => ⟨S2048x8, .f32⟩
  | .hbm, ⟨29, _⟩ => ⟨S_, .f32⟩
  | .hbm, ⟨30, _⟩ => ⟨S2048x8, .f32⟩
  | .hbm, ⟨31, _⟩ => ⟨S2048x8, .f32⟩
  | .hbm, ⟨32, _⟩ => ⟨S2048x8, .f32⟩
  | .hbm, ⟨33, _⟩ => ⟨S_, .f32⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S2048x1, .f32⟩
  | .hbm, ⟨39, _⟩ => ⟨S2048x8, .f32⟩
  | .hbm, ⟨40, _⟩ => ⟨S2048x8, .f32⟩
  | .hbm, ⟨41, _⟩ => ⟨S2048x8x1, .f32⟩
  | .hbm, ⟨42, _⟩ => ⟨S2048x8x128, .f32⟩
  | .hbm, ⟨43, _⟩ => ⟨S2048x8x128, .f32⟩
  | .hbm, ⟨44, _⟩ => ⟨S_, .f32⟩
  | .hbm, ⟨45, _⟩ => ⟨S2048x128, .f32⟩
  | .hbm, ⟨46, _⟩ => ⟨S2048x2, .f32⟩
  | .hbm, ⟨47, _⟩ => ⟨S2048x2, .i32⟩
  | .hbm, ⟨48, _⟩ => ⟨S_, .i1⟩
  | .hbm, ⟨49, _⟩ => ⟨S2048x8, .i1⟩
  | .hbm, ⟨50, _⟩ => ⟨S2048, .i32⟩
  | .hbm, ⟨51, _⟩ => ⟨S2048x1, .i32⟩
  | .hbm, ⟨52, _⟩ => ⟨S_, .i32⟩
  | .hbm, ⟨53, _⟩ => ⟨S2048x1, .i32⟩
  | .hbm, ⟨54, _⟩ => ⟨S2048x1, .i1⟩
  | .hbm, ⟨55, _⟩ => ⟨S_, .i32⟩
  | .hbm, ⟨56, _⟩ => ⟨S2048x1, .i32⟩
  | .hbm, ⟨57, _⟩ => ⟨S2048x1, .i32⟩
  | .hbm, ⟨58, _⟩ => ⟨S2048x1, .i32⟩
  | .hbm, ⟨59, _⟩ => ⟨S_, .i32⟩
  | .hbm, ⟨60, _⟩ => ⟨S2048x2, .i32⟩
  | .hbm, ⟨61, _⟩ => ⟨S2048x2, .i1⟩
  | .hbm, ⟨62, _⟩ => ⟨S_, .i32⟩
  | .hbm, ⟨63, _⟩ => ⟨S2048x2, .i32⟩
  | .hbm, ⟨64, _⟩ => ⟨S2048x2, .i32⟩
  | .hbm, ⟨65, _⟩ => ⟨S2048x2, .i32⟩
  | .hbm, ⟨66, _⟩ => ⟨S2048x2, .i32⟩
  | .hbm, ⟨67, _⟩ => ⟨S2048x2x1, .i32⟩
  | .hbm, ⟨68, _⟩ => ⟨S2048x2x1, .i32⟩
  | .hbm, ⟨69, _⟩ => ⟨S2048x2x2, .i32⟩
  | .hbm, ⟨70, _⟩ => ⟨S_, .i1⟩
  | .hbm, ⟨71, _⟩ => ⟨S2048x2, .i1⟩
  | .hbm, ⟨72, _⟩ => ⟨S2048x8, .i1⟩
  | .hbm, ⟨73, _⟩ => ⟨S2048x8, .f32⟩
  | .hbm, ⟨74, _⟩ => ⟨S2048x8, .f32⟩
  | .hbm, ⟨75, _⟩ => ⟨S_, .f32⟩
  | .hbm, ⟨76, _⟩ => ⟨S2048, .f32⟩
  | .hbm, ⟨77, _⟩ => ⟨S_, .f32⟩
  | .hbm, ⟨78, _⟩ => ⟨S2048, .f32⟩
  | .hbm, ⟨79, _⟩ => ⟨S2048, .f32⟩
  | .hbm, ⟨80, _⟩ => ⟨S2048x1, .f32⟩
  | .hbm, ⟨81, _⟩ => ⟨S2048x8, .f32⟩
  | .hbm, ⟨82, _⟩ => ⟨S2048x8, .f32⟩
  | .hbm, ⟨83, _⟩ => ⟨S8x64x2048x10, .f32⟩
  | .hbm, ⟨84, _⟩ => ⟨S8x2048x10x64, .f32⟩
  | .hbm, ⟨85, _⟩ => ⟨S8x1x1x64, .f32⟩
  | .hbm, ⟨86, _⟩ => ⟨S8x2048x10x64, .f32⟩
  | .hbm, ⟨87, _⟩ => ⟨S8x2048x10x64, .f32⟩
  | .hbm, ⟨88, _⟩ => ⟨S2048x10x64, .f32⟩
  | .hbm, ⟨89, _⟩ => ⟨S2048x10x64, .bf16⟩
  | .hbm, ⟨90, _⟩ => ⟨S2048x8, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | _, _ => ⟨S2048x10x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_values : Ref sig .tc := ⟨.hbm, 46, rfl⟩
abbrev main_indices : Ref sig .tc := ⟨.hbm, 47, rfl⟩
abbrev main_c_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_9 : Ref sig .tc := ⟨.hbm, 52, rfl⟩
abbrev main_v33 : Ref sig .tc := ⟨.hbm, 53, rfl⟩
abbrev main_v34 : Ref sig .tc := ⟨.hbm, 54, rfl⟩
abbrev main_c_10 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_11 : Ref sig .tc := ⟨.hbm, 59, rfl⟩
abbrev main_v38 : Ref sig .tc := ⟨.hbm, 60, rfl⟩
abbrev main_v39 : Ref sig .tc := ⟨.hbm, 61, rfl⟩
abbrev main_c_12 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_13 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_14 : Ref sig .tc := ⟨.hbm, 75, rfl⟩
abbrev main_v51 : Ref sig .tc := ⟨.hbm, 76, rfl⟩
abbrev main_cst_15 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_16 : Ref sig .tc := ⟨.hbm, 91, rfl⟩
abbrev main_v65 : Ref sig .tc := ⟨.hbm, 92, rfl⟩
abbrev main_cst_17 : Ref sig .tc := ⟨.hbm, 93, rfl⟩
abbrev main_v66 : Ref sig .tc := ⟨.hbm, 94, rfl⟩
abbrev main_cst_18 : Ref sig .tc := ⟨.hbm, 95, rfl⟩
abbrev main_v67 : Ref sig .tc := ⟨.hbm, 96, rfl⟩
abbrev main_cst_19 : Ref sig .tc := ⟨.hbm, 97, rfl⟩
abbrev main_v68 : Ref sig .tc := ⟨.hbm, 98, rfl⟩
abbrev main_v69 : Ref sig .tc := ⟨.hbm, 99, rfl⟩

abbrev nD : Nat := 1
abbrev τ : Topo := Topo.v7x

variable {F : FTy → Type} [FloatOps F]
-- ==== Proof.RowStore.lean ====
/-
  A buffer of shape [256, 10, 64] filled row by row. Storing row `l` of the middle axis loads the pair of rows that holds
  `l`, puts the new row into the pair and stores the pair back. This module states that such a store puts the row and
  leaves every other row as it was, and that after all ten rows have been stored the buffer is the ten rows, whatever it
  held before.
-/
module

public import Idealize.ShloMosaic.Lib.VecWindow
public import Idealize.ShloMosaic.Lib.Pointwise
public import Idealize.ShloMosaic.Lib.ValueIdx

@[expose] public section

noncomputable section

namespace Cert.RowStore

open Idealize.ShloMosaic

/-- The buffer's shape. -/
abbrev SBuf : Shape := ⟨3, ![256, 10, 64]⟩
/-- The shape of one row of the middle axis. -/
abbrev SRow : Shape := ⟨3, ![256, 1, 64]⟩
/-- The shape of a pair of rows. -/
abbrev SPair : Shape := ⟨3, ![256, 2, 64]⟩

section Vectors

variable {α : Type}

/-- `x` with row `l` of the middle axis replaced by `pay`. -/
def setRow (x : SBuf.Idx → α) (l : Nat) (pay : SRow.Idx → α) : SBuf.Idx → α :=
  fun y => if (y 1).val = l then pay (ix3 (y 0) 0 (y 2)) else x y

/-- A pair of rows is put exactly over the rows `b` and `b + 1`. -/
theorem inside_pair (b : Nat) (y : SBuf.Idx) :
    (∀ a, (![0, b, 0] : Fin 3 → Nat) a ≤ (y a).val ∧ (y a).val < (![0, b, 0] : Fin 3 → Nat) a + (![256, 2, 64] : Fin 3 → Nat) a)
      ↔ b ≤ (y 1).val ∧ (y 1).val < b + 2 := by
  have h0 : (y 0).val < 256 := (y 0).isLt
  have h2 : (y 2).val < 64 := (y 2).isLt
  refine ⟨fun hall => hall 1, fun hy a => ?_⟩
  match a with
  | ⟨0, _⟩ => exact ⟨Nat.zero_le _, by show (y 0).val < 0 + 256; omega⟩
  | ⟨1, _⟩ => exact hy
  | ⟨2, _⟩ => exact ⟨Nat.zero_le _, by show (y 2).val < 0 + 64; omega⟩

/-- Inside the pair, a put reads the pair. -/
theorem put_inside (x : SBuf.Idx → α) (b : Nat) (w : SPair.Idx → α) (y : SBuf.Idx)
    (hy : ∀ a : Fin SBuf.rank, (![0, b, 0] : Fin 3 → Nat) a ≤ (y a).val ∧ (y a).val < (![0, b, 0] : Fin 3 → Nat) a + (![256, 2, 64] : Fin 3 → Nat) a) :
    VecWindow.put x ![0, b, 0] ![256, 2, 64] w y
      = w (Rect.unitLocal (s := SBuf) (off := ![0, b, 0]) (size := ![256, 2, 64]) y hy) := dif_pos hy

/-- Outside the pair, a put reads what was there before. -/
theorem put_outside (x : SBuf.Idx → α) (b : Nat) (w : SPair.Idx → α) (y : SBuf.Idx) (hy : ¬ (b ≤ (y 1).val ∧ (y 1).val < b + 2)) :
    VecWindow.put x ![0, b, 0] ![256, 2, 64] w y = x y := dif_neg fun hall => hy ((inside_pair b y).mp hall)

/-- Putting a pair of rows whose row `p` has been replaced by `pay` is putting the pair and then replacing row `b + p`. -/
theorem put_updateSlice (x : SBuf.Idx → α) (b p : Nat) (hp : p < 2) (w : SPair.Idx → α) (pay : SRow.Idx → α)
    (h : SPair.Slices ![0, p, 0] SRow) :
    VecWindow.put x ![0, b, 0] ![256, 2, 64] (updateSlice (s := SPair) w pay ![0, p, 0] h)
      = setRow (VecWindow.put x ![0, b, 0] ![256, 2, 64] w) (b + p) pay := by
  funext y
  have h0 : (y 0).val < 256 := (y 0).isLt
  have h1 : (y 1).val < 10 := (y 1).isLt
  have h2 : (y 2).val < 64 := (y 2).isLt
  unfold setRow
  by_cases hy : b ≤ (y 1).val ∧ (y 1).val < b + 2
  · refine (put_inside x b _ y ((inside_pair b y).mpr hy)).trans ?_
    unfold updateSlice
    by_cases hl : (y 1).val = b + p
    · rw [if_pos hl]
      refine (dif_pos fun a => ?_).trans (congrArg pay (funext fun a => Fin.ext ?_))
      · match a with
        | ⟨0, _⟩ => exact ⟨Nat.zero_le _, by show (y 0).val - 0 < 0 + 256; omega⟩
        | ⟨1, _⟩ => exact ⟨by show p ≤ (y 1).val - b; omega, by show (y 1).val - b < p + 1; omega⟩
        | ⟨2, _⟩ => exact ⟨Nat.zero_le _, by show (y 2).val - 0 < 0 + 64; omega⟩
      · match a with
        | ⟨0, _⟩ => show (y 0).val - 0 - 0 = (y 0).val; omega
        | ⟨1, _⟩ => show (y 1).val - b - p = 0; omega
        | ⟨2, _⟩ => show (y 2).val - 0 - 0 = (y 2).val; omega
    · rw [if_neg hl]
      refine (dif_neg fun hall => ?_).trans (put_inside x b w y ((inside_pair b y).mpr hy)).symm
      have h' : p ≤ (y 1).val - b ∧ (y 1).val - b < p + 1 := hall 1
      omega
  · rw [if_neg (by omega), put_outside x b _ y hy, put_outside x b _ y hy]

/-- Whatever pair is put, replacing both its rows afterwards leaves nothing of it. -/
theorem setRow_setRow_put (x : SBuf.Idx → α) (b : Nat) (w : SPair.Idx → α) (pay0 pay1 : SRow.Idx → α) :
    setRow (setRow (VecWindow.put x ![0, b, 0] ![256, 2, 64] w) (b + 0) pay0) (b + 1) pay1
      = setRow (setRow x b pay0) (b + 1) pay1 := by
  funext y
  unfold setRow
  by_cases h1 : (y 1).val = b + 1
  · rw [if_pos h1, if_pos h1]
  · rw [if_neg h1, if_neg h1]
    by_cases h0 : (y 1).val = b
    · rw [if_pos (show (y 1).val = b + 0 from h0), if_pos h0]
    · rw [if_neg (show ¬ (y 1).val = b + 0 from h0), if_neg h0]
      exact put_outside x b w y (by omega)

/-- `x` with its first `n` rows replaced by those of `r`. -/
def setRows (x : SBuf.Idx → α) (r : Fin 10 → SRow.Idx → α) : (n : Nat) → n ≤ 10 → SBuf.Idx → α
  | 0, _ => x
  | n + 1, h => setRow (setRows x r n (Nat.le_of_succ_le h)) n (r ⟨n, h⟩)

/-- The buffer whose rows are `r`. -/
def ofRows (r : Fin 10 → SRow.Idx → α) : SBuf.Idx → α := fun y => r (y 1) (ix3 (y 0) 0 (y 2))

/-- After the first `n` rows have been replaced, a row below `n` is `r`'s and every other one is `x`'s. -/
theorem setRows_apply (x : SBuf.Idx → α) (r : Fin 10 → SRow.Idx → α) (n : Nat) (h : n ≤ 10) (y : SBuf.Idx) :
    setRows x r n h y = if (y 1).val < n then ofRows r y else x y := by
  induction n with
  | zero => simp [setRows]
  | succ n ih =>
    unfold setRows setRow
    by_cases hy : (y 1).val = n
    · rw [if_pos hy, if_pos (by omega)]
      have : (⟨n, h⟩ : Fin 10) = y 1 := Fin.ext hy.symm
      rw [this]; rfl
    · rw [if_neg hy, ih]
      by_cases hlt : (y 1).val < n
      · rw [if_pos hlt, if_pos (by omega)]
      · rw [if_neg hlt, if_neg (by omega)]

/-- After all ten rows have been replaced nothing of `x` is left. -/
theorem setRows_all (x : SBuf.Idx → α) (r : Fin 10 → SRow.Idx → α) : setRows x r 10 (Nat.le_refl _) = ofRows r := by
  funext y
  exact (setRows_apply x r 10 (Nat.le_refl _) y).trans (if_pos (y 1).isLt)

end Vectors

section Stores

variable {sig : RefSig} {κ : Kind} {sp : Space} {e : EltTy} {Val : EltTy → Type}

/-- The two stores of a pair of rows, the second one's pair loaded where the first one has just put it, replace the rows `b` and
    `b + 1` of what the buffer held, whatever pair the first one has loaded. -/
theorem read_pair [∀ e, Nonempty (Val e)] (v : View sig κ sp SBuf e) (f : v.ty.Contents Val) (L : List (View.Piece Val SBuf e)) (b : Nat)
    (inb : ∀ a, (![0, b, 0] : Fin 3 → Nat) a + (![256, 2, 64] : Fin 3 → Nat) a ≤ SBuf.size a)
    (h0 : SPair.Slices ![0, 0, 0] SRow) (h1 : SPair.Slices ![0, 1, 0] SRow) (old : SPair.Idx → Val e) (pay0 pay1 : SRow.Idx → Val e) :
    v.read Val (v.writes Val f (⟨Rect.unit ![0, b, 0] ![256, 2, 64] inb,
        updateSlice (s := SPair) (v.readCov (⟨Rect.unit (s := SBuf) ![0, b, 0] ![256, 2, 64] inb, updateSlice (s := SPair) old pay0 ![0, 0, 0] h0⟩ :: L)
          (Rect.unit (s := SBuf) ![0, b, 0] ![256, 2, 64] inb).toLoadRect) pay1 ![0, 1, 0] h1⟩
        :: ⟨Rect.unit ![0, b, 0] ![256, 2, 64] inb, updateSlice (s := SPair) old pay0 ![0, 0, 0] h0⟩ :: L))
      = setRow (setRow (v.read Val (v.writes Val f L)) b pay0) (b + 1) pay1 := by
  have e1 : v.readCov (⟨Rect.unit (s := SBuf) ![0, b, 0] ![256, 2, 64] inb, updateSlice (s := SPair) old pay0 ![0, 0, 0] h0⟩ :: L)
      (Rect.unit (s := SBuf) ![0, b, 0] ![256, 2, 64] inb).toLoadRect = updateSlice (s := SPair) old pay0 ![0, 0, 0] h0 :=
    View.readCov_cons_toLoadRect v (Rect.unit (s := SBuf) ![0, b, 0] ![256, 2, 64] inb) _ L
  refine (View.read_writes_cons_put v f inb _ _ rfl).trans ?_
  rw [e1]
  refine (put_updateSlice _ b 1 (by decide) _ pay1 h1).trans ?_
  refine (congrArg (fun x => setRow (VecWindow.put x ![0, b, 0] ![256, 2, 64] (updateSlice (s := SPair) old pay0 ![0, 0, 0] h0)) (b + 1) pay1)
    (View.read_writes_cons_put v f inb _ L rfl)).trans ?_
  refine (congrArg (fun x => setRow x (b + 1) pay1) (put_updateSlice _ b 0 (by decide) old pay0 h0)).trans ?_
  refine (setRow_setRow_put _ b old pay0 pay1).trans ?_
  funext y
  unfold setRow
  by_cases g1 : (y 1).val = b + 1
  · rw [if_pos g1, if_pos g1]
  · rw [if_neg g1, if_neg g1]
    by_cases g0 : (y 1).val = b
    · rw [if_pos g0, if_pos g0]
    · rw [if_neg g0, if_neg g0]
      exact put_outside _ b _ y (by omega)

/-- So, if the buffer has its first `b` rows from `r` before the two stores of the pair at `b`, it has its first `b + 2` after them. -/
theorem read_pair_rows [∀ e, Nonempty (Val e)] (v : View sig κ sp SBuf e) (f : v.ty.Contents Val) (x : SBuf.Idx → Val e) (r : Fin 10 → SRow.Idx → Val e)
    (b : Nat) (hb : b + 2 ≤ 10) (L : List (View.Piece Val SBuf e))
    (inb : ∀ a, (![0, b, 0] : Fin 3 → Nat) a + (![256, 2, 64] : Fin 3 → Nat) a ≤ SBuf.size a)
    (h0 : SPair.Slices ![0, 0, 0] SRow) (h1 : SPair.Slices ![0, 1, 0] SRow) (old : SPair.Idx → Val e) (pay0 pay1 : SRow.Idx → Val e)
    (hL : v.read Val (v.writes Val f L) = setRows x r b (by omega)) (e0 : pay0 = r ⟨b, by omega⟩) (e1 : pay1 = r ⟨b + 1, by omega⟩) :
    v.read Val (v.writes Val f (⟨Rect.unit ![0, b, 0] ![256, 2, 64] inb,
        updateSlice (s := SPair) (v.readCov (⟨Rect.unit (s := SBuf) ![0, b, 0] ![256, 2, 64] inb, updateSlice (s := SPair) old pay0 ![0, 0, 0] h0⟩ :: L)
          (Rect.unit (s := SBuf) ![0, b, 0] ![256, 2, 64] inb).toLoadRect) pay1 ![0, 1, 0] h1⟩
        :: ⟨Rect.unit ![0, b, 0] ![256, 2, 64] inb, updateSlice (s := SPair) old pay0 ![0, 0, 0] h0⟩ :: L))
      = setRows x r (b + 2) hb := by
  rw [read_pair, hL, e0, e1]
  rfl

end Stores

end Cert.RowStore

end
-- ==== Proof.Block.lean ====
/-
  What one grid point of the kernel computes, from the blocks its input windows hold: the block of `final_out` (its ten
  rows), the running value of the guidance loss and the block of the selection embedding. The payloads are the ones the
  kernel's skeleton names, composed as the kernel composes them.
-/
module

public import proofs.«01_k».proof.Proof.Gen.KernelIdeal.Skeleton
public import proofs.«01_k».proof.Proof.RowStore

@[expose] public section

noncomputable section

namespace Cert.KernelIdeal.Body

open Cert.KernelIdeal Cert.KernelIdeal.Gen
open Idealize.ShloMosaic

variable {F : FTy → Type} [FloatOps F]

/-- The gates of a block: the two largest of the masked scores of each row, divided by their sum. -/
abbrev gates (x1 : Vec F S256x8 .f32) (x2 : Vec F S256x8 .i32) : FVec F S256x8 .f32 :=
  k0_pay6 (k0_pay4 x1 x2) (k0_pay5 x1 x2)

/-- The 512 × 64 matrix of zeros and ones that adds up the experts. -/
abbrev ones : FVec F S512x64 .bf16 :=
  k0_pay15 (iota .tc S512x64 32 [0] iota_S512x64_d0_w32) (iota .tc S512x64 32 [1] iota_S512x64_d1_w32) 64#32 0#32

/-- The ten rows of the block of `final_out`. -/
def rows (x0 : Vec F S256x3840 .bf16) (x1 : Vec F S256x8 .f32) (x2 : Vec F S256x8 .i32) (x4 : Vec F S384x512 .bf16)
    (x5 : Vec F S8x64 .f32) : Fin 10 → FVec F S256x1x64 .bf16 :=
  let g := gates x1 x2
  let gf := k0_pay13 g
  let gb := k0_pay14 g x5
  let i0 := iota .tc S512x64 32 [0] iota_S512x64_d0_w32
  let i1 := iota .tc S512x64 32 [1] iota_S512x64_d1_w32
  let xs := k0_pay16 x0
  let ws := k0_pay17 x4
  ![k0_pay18 gf gb i0 i1 64#32 0#32 x0 x4,
    k0_pay20 (k0_pay19 gf gb i0 i1 64#32 0#32 x0 x4),
    k0_pay21 gf gb ones xs ws,
    k0_pay22 gf gb ones xs ws,
    k0_pay23 gf gb ones xs ws,
    k0_pay25 (k0_pay24 gf gb ones xs ws),
    k0_pay26 gf gb ones xs ws,
    k0_pay27 gf gb ones xs ws,
    k0_pay28 gf gb ones xs ws,
    k0_pay1 gb ones (k0_pay29 gf xs ws)]

/-- The block of `final_out`. -/
def outBlk (x0 : Vec F S256x3840 .bf16) (x1 : Vec F S256x8 .f32) (x2 : Vec F S256x8 .i32) (x4 : Vec F S384x512 .bf16)
    (x5 : Vec F S8x64 .f32) : Vec F S256x10x64 .bf16 :=
  RowStore.ofRows (rows x0 x1 x2 x4 x5)

/-- The block's contribution to the guidance loss: the masked scores added up. -/
abbrev part (x1 : Vec F S256x8 .f32) (x2 : Vec F S256x8 .i32) : FVec F S1x1 .f32 :=
  k0_pay9 (k0_pay2 x2) (k0_pay3 x1)

/-- The guidance loss after point `i`, from its value `g` before: the first point starts it, every later one adds its
    contribution, and the last one then turns the sum into the loss. -/
def guideStep (i : grid0.Coords) (x1 : Vec F S256x8 .f32) (x2 : Vec F S256x8 .i32) (g : Vec F S1x1 .f32) : Vec F S1x1 .f32 :=
  let a := if k0_cond1 i = 1#1 then part x1 x2 else g
  let b := if k0_cond2 i = 1#1 then k0_pay10 (part x1 x2) a else a
  if k0_cond3 i = 1#1 then k0_pay11 b else b

/-- The block of the selection embedding. -/
def selBlk (x1 : Vec F S256x8 .f32) (x2 : Vec F S256x8 .i32) (x3 : Vec F S256x8x128 .f32) : Vec F S256x128 .f32 :=
  k0_pay8 (k0_pay7 (k0_pay2 x2) (k0_pay3 x1)) x3

end Cert.KernelIdeal.Body

end
-- ==== Proof.Body.lean ====
/-
  The kernel's body on any staging memrefs: from the input blocks it leaves `outBlk`, `guideStep` and `selBlk` in the
  outputs' buffers, whatever the first and the last of these held before.
-/
module

public import proofs.«01_k».proof.Proof.Block
public import Idealize.ShloMosaic.Lib.Pipeline.FrameBody
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A whole buffer loaded whole at the contents `x` gives `x`. -/
theorem readAt_whole {κ : Kind} {sp : Space} {s : Shape} {e : EltTy} (a : Memref sig κ sp s e) (ha : a.IsWhole) {off : Fin s.rank → ℕ}
    (inb : ∀ i, off i + s.size i ≤ s.size i) (x : s.Idx → Elt F e) :
    a.view.readAt (Elt F) (Rect.unit off s.size inb).toLoadRect (ha.unread x) = x :=
  (View.readAt_full a.view _ inb).trans (ha.read_unread x)

set_option maxHeartbeats 1000000 in
/-- The body's triple. The three branch conditions are those of the first point, of the points between, and of the last. -/
theorem kernel_triple (c : Dev nD) (i : grid0.Coords) (arg1 : Memref sig .tc .vmem S256x3840 .bf16) (harg1 : arg1.IsWhole) (arg2 : Memref sig .tc .vmem S256x8 .f32) (harg2 : arg2.IsWhole) (arg3 : Memref sig .tc .vmem S256x8 .i32) (harg3 : arg3.IsWhole) (arg4 : Memref sig .tc .vmem S256x8x128 .f32) (harg4 : arg4.IsWhole) (arg5 : Memref sig .tc .vmem S384x512 .bf16) (harg5 : arg5.IsWhole) (arg6 : Memref sig .tc .vmem S8x64 .f32) (harg6 : arg6.IsWhole) (arg7 : Memref sig .tc .vmem S256x10x64 .bf16) (harg7 : arg7.IsWhole) (arg8 : Memref sig .tc .vmem S1x1 .f32) (harg8 : arg8.IsWhole) (arg9 : Memref sig .tc .vmem S256x128 .f32) (harg9 : arg9.IsWhole)
    (hc : (k0_cond1 i = 1#1 ∧ ¬ k0_cond2 i = 1#1 ∧ ¬ k0_cond3 i = 1#1) ∨ (¬ k0_cond1 i = 1#1 ∧ k0_cond2 i = 1#1 ∧ ¬ k0_cond3 i = 1#1) ∨ (¬ k0_cond1 i = 1#1 ∧ k0_cond2 i = 1#1 ∧ k0_cond3 i = 1#1))
    (x0 : Vec F S256x3840 .bf16) (x1 : Vec F S256x8 .f32) (x2 : Vec F S256x8 .i32) (x3 : Vec F S256x8x128 .f32) (x4 : Vec F S384x512 .bf16) (x5 : Vec F S8x64 .f32) (x7 : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outBlk x0 x1 x2 x4 x5) ∗ owns (c : Thread nD τ) arg8 fullShare (guideStep i x1 x2 x7) ∗ owns (c : Thread nD τ) arg9 fullShare (selBlk x1 x2 x3)) -∗ K ⟨⟩))
      ⊢ wp frame (wpE (defs₀ (F := F)) Variants.none c none) E (cc0__moe_kernel i arg1 harg1 arg2 harg2 arg3 harg3 arg4 harg4 arg5 harg5 arg6 harg6 arg7 harg7 arg8 harg8 arg9 harg9) K := by
  simp only [cc0__moe_kernel_eq_skeleton]; unfold cc0__moe_kernel_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
  have r1 : arg1.view.readAt (Elt F) (Rect.unit (s := S256x3840) ![0, 0] ![256, 3840] inb_S256x3840_S256x3840_0_0).toLoadRect (harg1.unread x0) = x0 := readAt_whole arg1 harg1 _ x0
  have r2 : arg2.view.readAt (Elt F) (Rect.unit (s := S256x8) ![0, 0] ![256, 8] inb_S256x8_S256x8_0_0).toLoadRect (harg2.unread x1) = x1 := readAt_whole arg2 harg2 _ x1
  have r3 : arg3.view.readAt (Elt F) (Rect.unit (s := S256x8) ![0, 0] ![256, 8] inb_S256x8_S256x8_0_0).toLoadRect (harg3.unread x2) = x2 := readAt_whole arg3 harg3 _ x2
  have r4 : arg4.view.readAt (Elt F) (Rect.unit (s := S256x8x128) ![0, 0, 0] ![256, 8, 128] inb_S256x8x128_S256x8x128_0_0_0).toLoadRect (harg4.unread x3) = x3 := readAt_whole arg4 harg4 _ x3
  have r5 : arg5.view.readAt (Elt F) (Rect.unit (s := S384x512) ![0, 0] ![384, 512] inb_S384x512_S384x512_0_0).toLoadRect (harg5.unread x4) = x4 := readAt_whole arg5 harg5 _ x4
  have r6 : arg6.view.readAt (Elt F) (Rect.unit (s := S8x64) ![0, 0] ![8, 64] inb_S8x64_S8x64_0_0).toLoadRect (harg6.unread x5) = x5 := readAt_whole arg6 harg6 _ x5
  have r8 : arg8.view.readAt (Elt F) (Rect.unit (s := S1x1) ![0, 0] ![1, 1] inb_S1x1_S1x1_0_0).toLoadRect (harg8.unread x7) = x7 := readAt_whole arg8 harg8 _ x7
  rcases hc with ⟨hc0, hc1, hc2⟩ | ⟨hc0, hc1, hc2⟩ | ⟨hc0, hc1, hc2⟩
  all_goals
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr
      swap; · iexact H6
      ipureintro
      refine Eq.trans ?_ (RowStore.setRows_all (arg7.view.read (Elt F) f6) (rows x0 x1 x2 x4 x5))
      refine RowStore.read_pair_rows (Val := Elt F) arg7.view f6 _ _ 8 (by decide) _ _ _ _ _ _ _ ?_ ?_ ?_
      refine RowStore.read_pair_rows (Val := Elt F) arg7.view f6 _ _ 6 (by decide) _ _ _ _ _ _ _ ?_ ?_ ?_
      refine RowStore.read_pair_rows (Val := Elt F) arg7.view f6 _ _ 4 (by decide) _ _ _ _ _ _ _ ?_ ?_ ?_
      refine RowStore.read_pair_rows (Val := Elt F) arg7.view f6 _ _ 2 (by decide) _ _ _ _ _ _ _ ?_ ?_ ?_
      refine RowStore.read_pair_rows (Val := Elt F) arg7.view f6 _ _ 0 (by decide) [] _ _ _ _ _ _ rfl ?_ ?_
      all_goals
        sl_unfold_run_names
        simp only [r1, r2, r3, r4, r5, r6]
        rfl
    isplitl [H7]
    · iexists _; isplitr
      swap; · iexact H7
      ipureintro
      refine (View.read_writes_full arg8.view _ inb_S1x1_S1x1_0_0 _ _).trans ?_
      unfold guideStep
      sl_unfold_run_names
      simp only [hc0, hc1, hc2, if_true, if_false, r1, r2, r3, r8, View.readAt_writes_full]
      all_goals exact congrArg k0_pay11 (View.readCov_full arg8.view inb_S1x1_S1x1_0_0 inb_S1x1_S1x1_0_0 _ _)
    iexists _; isplitr
    swap; · iexact H8
    ipureintro
    refine (View.read_writes_full arg9.view _ inb_S256x128_S256x128_0_0 _ _).trans ?_
    sl_unfold_run_names
    first | rfl | (simp only [r2, r3, r4]; rfl)

end Cert.KernelIdeal.Body

end
-- ==== Proof.Launch.lean ====
/-
  The launch: the body at every grid point, what the outputs hold point by point, and the run of the whole program, with
  every counter at zero at its end.
-/
module

public import proofs.«01_k».proof.Proof.Body
public import proofs.«01_k».proof.Proof.Gen.KernelIdeal.Frame
public import Idealize.ShloMosaic.Lib.Pipeline.TableIdle
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three branch conditions at a point -/

/-- A point's one coordinate is its number. -/
theorem coord_eq (t : Fin cfg0.N) : (grid0.coords t 0).val = t.val := by
  have ht : t.val < 8 := Nat.lt_of_lt_of_eq t.isLt N_0
  have e0 : (grid0.coords t 0).val = t.val / 1 % 8 := Pipeline.Grid.coords_val t 0 (by decide) rfl
  rw [e0]; omega

/-- The first branch is the first point's. -/
theorem cond1_iff (t : Fin cfg0.N) : k0_cond1 (grid0.coords t) = 1#1 ↔ t.val = 0 := by
  have ht : t.val < 8 := Nat.lt_of_lt_of_eq t.isLt N_0
  simp only [k0_cond1, coord_eq]
  word_cmp

/-- The second branch is every later point's. -/
theorem cond2_iff (t : Fin cfg0.N) : k0_cond2 (grid0.coords t) = 1#1 ↔ 1 ≤ t.val := by
  have ht : t.val < 8 := Nat.lt_of_lt_of_eq t.isLt N_0
  simp only [k0_cond2, coord_eq]
  word_cmp

/-- The third branch is the last point's. -/
theorem cond3_iff (t : Fin cfg0.N) : k0_cond3 (grid0.coords t) = 1#1 ↔ t.val = 7 := by
  have ht : t.val < 8 := Nat.lt_of_lt_of_eq t.isLt N_0
  simp only [k0_cond3, coord_eq]
  word_cmp

/-- Every point is the first, one between, or the last. -/
theorem conds (t : Fin cfg0.N) :
    (k0_cond1 (grid0.coords t) = 1#1 ∧ ¬ k0_cond2 (grid0.coords t) = 1#1 ∧ ¬ k0_cond3 (grid0.coords t) = 1#1)
    ∨ (¬ k0_cond1 (grid0.coords t) = 1#1 ∧ k0_cond2 (grid0.coords t) = 1#1 ∧ ¬ k0_cond3 (grid0.coords t) = 1#1)
    ∨ (¬ k0_cond1 (grid0.coords t) = 1#1 ∧ k0_cond2 (grid0.coords t) = 1#1 ∧ k0_cond3 (grid0.coords t) = 1#1) := by
  rw [cond1_iff, cond2_iff, cond3_iff]; omega

/-- The guidance loss's window is idle at no point: one branch or another stores it. -/
theorem live7 (t : Fin cfg0.N) : cfg0.idle 7 (grid0.coords t) = false := by
  have h : (!(k0_cond1 (grid0.coords t) == 1#1) && !(k0_cond2 (grid0.coords t) == 1#1) && !(k0_cond3 (grid0.coords t) == 1#1)) = false := by
    rcases conds t with ⟨h, _, _⟩ | ⟨_, h, _⟩ | ⟨_, h, _⟩ <;> simp [h]
  exact h

/-- Whether the guidance loss's buffer is fresh before a point: only before the first, since it is written back after the last. -/
def fresh7 : ℕ → Bool
  | 0 => true
  | n + 1 => decide (n = 7)

/-- The guidance loss is written back at the last point alone. -/
theorem flush7 (t : Fin cfg0.N) : (cfg0.win 7).flush t = decide (t.val = 7) := by
  revert t; decide +kernel

/-- The table of the guidance loss's freshness steps as the launch does. -/
theorem fresh7_step (t : Fin cfg0.N) :
    fresh7 (t.val + 1) = ((cfg0.win 7).flush t || (cfg0.idle 7 (cfg0.grid.coords t) && fresh7 t.val)) := by
  rw [show cfg0.idle 7 (cfg0.grid.coords t) = false from live7 t, flush7 t]
  simp [fresh7]

/-- After the first point the guidance loss's buffer is not fresh. -/
theorem notFresh7 (t : Fin cfg0.N) (h : t.val ≠ 0) : cfg0.fresh 7 t.val = false := by
  have ht : t.val < 8 := Nat.lt_of_lt_of_eq t.isLt N_0
  rw [Pipeline.Cfg.fresh_tab cfg0 7 fresh7 rfl fresh7_step t.val (Nat.le_of_lt t.isLt)]
  obtain ⟨n, hn⟩ : ∃ n, t.val = n + 1 := ⟨t.val - 1, by omega⟩
  rw [hn]
  show decide (n = 7) = false
  exact decide_eq_false (by omega)

/-! ## What the outputs hold, point by point -/

/-- Input window `w`'s block at point `t`, at its literal shape. -/
abbrev b0 (c : Dev nD) (t : Fin cfg0.N) : Vec F S256x3840 .bf16 := iblk m c 0 t
abbrev b1 (c : Dev nD) (t : Fin cfg0.N) : Vec F S256x8 .f32 := iblk m c 1 t
abbrev b2 (c : Dev nD) (t : Fin cfg0.N) : Vec F S256x8 .i32 := iblk m c 2 t
abbrev b3 (c : Dev nD) (t : Fin cfg0.N) : Vec F S256x8x128 .f32 := iblk m c 3 t
abbrev b4 (c : Dev nD) (t : Fin cfg0.N) : Vec F S384x512 .bf16 := iblk m c 4 t
abbrev b5 (c : Dev nD) (t : Fin cfg0.N) : Vec F S8x64 .f32 := iblk m c 5 t

/-- The guidance loss's running value after point `n`. -/
def guideAt (c : Dev nD) : (n : ℕ) → n < cfg0.N → Vec F S1x1 .f32
  | 0, h => part (b1 m c ⟨0, h⟩) (b2 m c ⟨0, h⟩)
  | n + 1, h => guideStep (grid0.coords ⟨n + 1, h⟩) (b1 m c ⟨n + 1, h⟩) (b2 m c ⟨n + 1, h⟩) (guideAt c n (Nat.lt_of_succ_lt h))

/-- The proof data: what the body leaves in each window's buffer at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (b0 m c t) (b1 m c t) (b2 m c t) (b4 m c t) (b5 m c t)
    | ⟨7, _⟩ => guideAt m c t.val t.isLt
    | ⟨8, _⟩ => selBlk (b1 m c t) (b2 m c t) (b3 m c t)
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) :
    (dats m 0 c).after 6 t = outBlk (b0 m c t) (b1 m c t) (b2 m c t) (b4 m c t) (b5 m c t) := by dsimp only [dats]
theorem after_7 (c : Dev nD) (t : Fin cfg0.N) : (dats m 0 c).after 7 t = guideAt m c t.val t.isLt := by dsimp only [dats]
theorem after_8 (c : Dev nD) (t : Fin cfg0.N) : (dats m 0 c).after 8 t = selBlk (b1 m c t) (b2 m c t) (b3 m c t) := by dsimp only [dats]

/-- Each input's staging buffer holds its block at every point. -/
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d

/-- After the first point the guidance loss's buffer holds what the point before left. -/
theorem before_7 (c : Dev nD) (t : Fin cfg0.N) (h : t.val ≠ 0) (d) :
    (dats m 0 c).before 7 t d = guideAt m c (t.val - 1) (Nat.lt_of_le_of_lt (Nat.sub_le _ _) t.isLt) := by
  rw [Dat.before_out_traj _ 7 rfl (fun _ _ => rfl)
      (fun t _ hi _ => absurd ((live7 t).symm.trans hi) Bool.false_ne_true) t.val t rfl d,
    if_neg (by rw [notFresh7 t h]; exact Bool.false_ne_true)]
  dsimp only [dats]

/-- A point's step from what it finds is what it leaves; the first point's does not depend on what it finds. -/
theorem guideStep_before (c : Dev nD) (t : Fin cfg0.N) (d) :
    guideStep (grid0.coords t) (b1 m c t) (b2 m c t) ((dats m 0 c).before 7 t d) = guideAt m c t.val t.isLt := by
  by_cases h : t.val = 0
  · obtain ⟨n, hn⟩ := t
    obtain rfl : n = 0 := h
    have h1 := (cond1_iff ⟨0, hn⟩).mpr rfl
    have h2 : ¬ k0_cond2 (grid0.coords ⟨0, hn⟩) = 1#1 := fun h => absurd ((cond2_iff ⟨0, hn⟩).mp h) (Nat.not_succ_le_zero 0)
    have h3 : ¬ k0_cond3 (grid0.coords ⟨0, hn⟩) = 1#1 := fun h => absurd ((cond3_iff ⟨0, hn⟩).mp h) (Nat.zero_ne_add_one 6)
    unfold guideStep
    rw [if_pos h1]
    dsimp only
    rw [if_neg h2, if_neg h3]
    rfl
  · rw [before_7 m c t h d]
    obtain ⟨n, hn⟩ := t
    obtain ⟨k, rfl⟩ : ∃ k, n = k + 1 := ⟨n - 1, by have : n ≠ 0 := h; omega⟩
    rfl

/-! ## The body obligation -/

/-- Each window's staging memref at a point. -/
abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev ms5 (t : Fin cfg0.N) := win0_5.stage (cfg0.slots t 5)
abbrev ms6 (t : Fin cfg0.N) := win0_6.stage (cfg0.slots t 6)
abbrev ms7 (t : Fin cfg0.N) := win0_7.stage (cfg0.slots t 7)
abbrev ms8 (t : Fin cfg0.N) := win0_8.stage (cfg0.slots t 8)

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- A window that is not idle is handed back at what the proof data says the body leaves. -/
theorem leaves_of_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 1200000 in
/-- The body at any point, from what the pipeline hands it to what the proof data says it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from leaves_of_live m c 0 t rfl, after_0]
  rw [show (dats m 0 c).leavesExact 1 t = owns (c : Thread nD τ) (ms1 t) fullShare ((dats m 0 c).after 1 t) from leaves_of_live m c 1 t rfl, after_1]
  rw [show (dats m 0 c).leavesExact 2 t = owns (c : Thread nD τ) (ms2 t) fullShare ((dats m 0 c).after 2 t) from leaves_of_live m c 2 t rfl, after_2]
  rw [show (dats m 0 c).leavesExact 3 t = owns (c : Thread nD τ) (ms3 t) fullShare ((dats m 0 c).after 3 t) from leaves_of_live m c 3 t rfl, after_3]
  rw [show (dats m 0 c).leavesExact 4 t = owns (c : Thread nD τ) (ms4 t) fullShare ((dats m 0 c).after 4 t) from leaves_of_live m c 4 t rfl, after_4]
  rw [show (dats m 0 c).leavesExact 5 t = owns (c : Thread nD τ) (ms5 t) fullShare ((dats m 0 c).after 5 t) from leaves_of_live m c 5 t rfl, after_5]
  rw [show (dats m 0 c).leavesExact 6 t = owns (c : Thread nD τ) (ms6 t) fullShare ((dats m 0 c).after 6 t) from leaves_of_live m c 6 t rfl, after_6]
  rw [show (dats m 0 c).leavesExact 7 t = owns (c : Thread nD τ) (ms7 t) fullShare ((dats m 0 c).after 7 t) from leaves_of_live m c 7 t (live7 t), after_7]
  rw [show (dats m 0 c).leavesExact 8 t = owns (c : Thread nD τ) (ms8 t) fullShare ((dats m 0 c).after 8 t) from leaves_of_live m c 8 t rfl, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernel_triple c (grid0.coords t) _ _ _ _ _ _ _ _ _ _ _ _ _ _ _ _ _ _ (conds t) (b0 m c t) (b1 m c t) (b2 m c t) (b3 m c t) (b4 m c t) (b5 m c t)
    ((dats m 0 c).before 7 t d7) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexists _; iexact H8
  rw [guideStep_before m c t d7]
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

/-- The body obligation of the pipeline, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: every execution ends, with every array of the pipeline at what the proof data computes, every other buffer
    as the operations after the region leave it, and every counter at zero. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The frame: every execution ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiescent m ρ))

end Cert.KernelIdeal.Body

end
-- ==== Proof.SameProgram.lean ====
/-
  The kernel and its idealization are one program: no rule rewrote an operation, so every definition of the one is the other's.
  What is proved of the idealization at any float instance therefore holds of the kernel.
-/
module

public import proofs.«01_k».proof.Proof.Launch
public import proofs.«01_k».proof.Proof.Gen.Kernel

@[expose] public section

noncomputable section

namespace Cert.SameProgram

open Idealize.ShloMosaic Idealize.SL.Sem

variable {F : FTy → Type} [FloatOps F]

/-- The two body tables agree, label by label. -/
theorem defs₀_eq : Cert.Kernel.defs₀ (F := F) = Cert.KernelIdeal.defs₀ (F := F) := by
  unfold Cert.Kernel.defs₀ Cert.KernelIdeal.defs₀
  refine congrArg Defs.onTc ?_
  funext l a
  match l, a with
  | ⟨0, _⟩, (t, s) => rfl

/-- The two programs' definitions agree. -/
theorem defs_eq : Cert.Kernel.defs (F := F) = Cert.KernelIdeal.defs (F := F) :=
  congrArg (Pipeline.defs Cert.KernelIdeal.pcfgs) defs₀_eq

/-- The kernel's frame: every execution ends with the argument arrays unchanged and every counter at zero. -/
theorem frame (m : (ℓ : Loc Cert.Kernel.nD Cert.Kernel.τ Cert.Kernel.sig) → Buf (Elt F) ℓ) (ρ : Dev Cert.Kernel.nD → PrngReg) :
    θ_run Cert.Kernel.defs (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0) := by
  rw [defs_eq]
  exact Cert.KernelIdeal.Body.frame (F := F) m ρ

end Cert.SameProgram

end
-- ==== Proof.Row.lean ====
/-
  One row of the router, over the extended reals: the scores, the masked scores, the gates and the inactive weights, as
  functions of the row's eight logits and eight mask words. Both programs compute these; what they share is stated here.
-/
module

public import Idealize.ShloMosaic.PureOps.Ideal.Laws

@[expose] public section

noncomputable section

namespace Cert.Row

open Idealize.ShloMosaic

/-- Which experts are active: a mask word of one is `1`, any other is `0`. -/
def msk (w : BitVec 32) : EReal := if w = 1#32 then 1 else 0

/-- The greatest of eight values. -/
def top (l : Fin 8 → EReal) : EReal := Finset.univ.fold max ⊥ l

/-- The numerator of the softmax. -/
def num (l : Fin 8 → EReal) (e : Fin 8) : EReal := Ideal.exp (l e - top l)

/-- The softmax of the row. -/
def soft (l : Fin 8 → EReal) (e : Fin 8) : EReal := Ideal.div (num l e) (∑ e', num l e')

/-- The scores of the active experts. -/
def gated (l : Fin 8 → EReal) (w : Fin 8 → BitVec 32) (e : Fin 8) : EReal := soft l e * msk (w e)

/-- The small constant added to a sum before dividing by it. -/
def eps : EReal := Ideal.ofBits .f32 0x3089705F#32

/-- The gates, from the masked scores `g` and the experts kept (`k e` is `1` for those, `0` for the others). -/
def gate (g k : Fin 8 → EReal) (e : Fin 8) : EReal := Ideal.div (g e * k e) ((∑ e', g e' * k e') + eps)

/-- The scores of the inactive experts. -/
def idle (l : Fin 8 → EReal) (w : Fin 8 → BitVec 32) (e : Fin 8) : EReal := soft l e * (1 - msk (w e))

/-- The weights of the selection embedding: the scores of the inactive experts over their sum. -/
def inact (l : Fin 8 → EReal) (w : Fin 8 → BitVec 32) (e : Fin 8) : EReal :=
  Ideal.div (idle l w e) ((∑ e', idle l w e') + eps)

/-- A mask is zero or one. -/
theorem msk_cases (w : BitVec 32) : msk w = 0 ∨ msk w = 1 := by
  unfold msk; split
  · exact Or.inr rfl
  · exact Or.inl rfl

/-- Each logit is at most the largest. -/
theorem le_top (l : Fin 8 → EReal) (e : Fin 8) : l e ≤ top l :=
  (Finset.le_fold_max _).2 (Or.inr ⟨e, Finset.mem_univ e, le_rfl⟩)

/-- The greatest of eight values is one of them. -/
theorem exists_top (l : Fin 8 → EReal) : ∃ e, l e = top l := by
  obtain ⟨e, -, he⟩ := Finset.exists_max_image Finset.univ l ⟨0, Finset.mem_univ _⟩
  refine ⟨e, le_antisymm (le_top l e) ?_⟩
  exact (Finset.fold_max_le _).2 ⟨bot_le, fun e' he' => he e' he'⟩

/-- The constant is a positive real number. -/
theorem eps_pos : ∃ r : ℝ, 0 < r ∧ eps = (r : EReal) := by
  refine ⟨_, ?_, by simp only [eps, Ideal.ofBits, Ideal.ieee]; norm_num; rfl⟩
  rw [if_neg (by decide)]
  positivity

/-- Minus one, as a pattern. -/
theorem ofBits_neg_one : Ideal.ofBits .f32 0xBF800000#32 = -1 := by
  simp [Ideal.ofBits, Ideal.ieee, -EReal.coe_mul]; norm_num

/-- One, as a pattern. -/
theorem ofBits_one : Ideal.ofBits .f32 0x3F800000#32 = 1 := by
  simp [Ideal.ofBits, Ideal.ieee, -EReal.coe_mul]; norm_num

/-- Minus infinity, as a pattern. -/
theorem ofBits_bot : Ideal.ofBits .f32 0xFF800000#32 = ⊥ := by
  simp [Ideal.ofBits, Ideal.ieee]

/-! ### The softmax -/

/-- Off a row whose greatest logit is a real number every numerator is `0`. -/
theorem num_eq_zero (l : Fin 8 → EReal) (h : top l = ⊥ ∨ top l = ⊤) (e : Fin 8) : num l e = 0 := by
  unfold num
  have hb : l e - top l = ⊥ := by
    rcases h with h | h
    · have : l e = ⊥ := le_bot_iff.1 (h ▸ le_top l e)
      rw [this, h]; rfl
    · rw [h, sub_eq_add_neg, EReal.neg_top, EReal.add_bot]
  rw [hb]; rfl

/-- In a row whose greatest logit is a real number every numerator is a nonnegative real number. -/
theorem num_real (l : Fin 8 → EReal) (M : ℝ) (h : top l = (M : EReal)) (e : Fin 8) :
    ∃ r : ℝ, 0 ≤ r ∧ num l e = (r : EReal) := by
  unfold num
  have hle := le_top l e
  rw [h] at hle ⊢
  induction hl : l e using EReal.rec with
  | bot => exact ⟨0, le_rfl, by rw [EReal.bot_sub]; rfl⟩
  | coe x => exact ⟨Real.exp (x - M), (Real.exp_pos _).le, by rw [← EReal.coe_sub]; rfl⟩
  | top => rw [hl] at hle; exact absurd (top_le_iff.1 hle) (EReal.coe_ne_top M)

/-- A sum of eight real numbers is a real number. -/
theorem sum_coe (s : Fin 8 → ℝ) : (∑ e, (s e : EReal)) = ((∑ e, s e : ℝ) : EReal) :=
  (map_sum (⟨⟨fun x : ℝ => (x : EReal), EReal.coe_zero⟩, EReal.coe_add⟩ : ℝ →+ EReal) s Finset.univ).symm

/-- A real number over a positive one. -/
theorem div_real (x y : ℝ) (hy : 0 < y) : Ideal.div x y = ((x * y⁻¹ : ℝ) : EReal) := by
  unfold Ideal.div
  rw [if_neg (EReal.coe_ne_zero.2 hy.ne'), ← EReal.coe_inv, ← EReal.coe_mul]

/-- Either the softmax of the row is undefined, written `⊥` in every place, or it is eight nonnegative real numbers. -/
theorem soft_cases (l : Fin 8 → EReal) :
    (∀ e, soft l e = ⊥) ∨ ∃ s : Fin 8 → ℝ, (∀ e, 0 ≤ s e) ∧ ∀ e, soft l e = (s e : EReal) := by
  have bad (h : top l = ⊥ ∨ top l = ⊤) : ∀ e, soft l e = ⊥ := fun e => by
    unfold soft Ideal.div
    rw [if_pos (Finset.sum_eq_zero fun e' _ => num_eq_zero l h e'), num_eq_zero l h, if_neg (lt_irrefl _)]
  induction hM : top l using EReal.rec with
  | bot => exact Or.inl (bad (Or.inl hM))
  | top => exact Or.inl (bad (Or.inr hM))
  | coe M =>
    choose n hn hnum using num_real l M hM
    obtain ⟨e₀, he₀⟩ := exists_top l
    have h1 : n e₀ = 1 := by
      have := hnum e₀
      unfold num at this
      rw [he₀, hM, ← EReal.coe_sub, sub_self] at this
      have h0 : Ideal.exp ((0 : ℝ) : EReal) = ((Real.exp 0 : ℝ) : EReal) := rfl
      rw [h0, Real.exp_zero] at this
      exact (EReal.coe_eq_coe_iff.1 this).symm
    have hs : (0 : ℝ) < ∑ e, n e :=
      lt_of_lt_of_le (h1 ▸ one_pos) (Finset.single_le_sum (fun e _ => hn e) (Finset.mem_univ e₀))
    refine Or.inr ⟨fun e => n e * (∑ e', n e')⁻¹, fun e => mul_nonneg (hn e) (inv_nonneg.2 hs.le), fun e => ?_⟩
    unfold soft
    rw [show (∑ e', num l e') = ((∑ e', n e' : ℝ) : EReal) from by rw [← sum_coe]; exact Finset.sum_congr rfl fun e' _ => hnum e',
      hnum e, div_real _ _ hs]

/-- Either the masked scores are nonnegative real numbers, or each of them is `⊥` or `0`. -/
theorem gated_cases (l : Fin 8 → EReal) (w : Fin 8 → BitVec 32) :
    (∀ e, gated l w e = ⊥ ∨ gated l w e = 0) ∨ ∃ s : Fin 8 → ℝ, (∀ e, 0 ≤ s e) ∧ ∀ e, gated l w e = (s e : EReal) := by
  rcases soft_cases l with h | ⟨s, hs, h⟩
  · refine Or.inl fun e => ?_
    unfold gated
    rcases msk_cases (w e) with hm | hm <;> rw [hm]
    · exact Or.inr (mul_zero _)
    · exact Or.inl (by rw [mul_one, h])
  · refine Or.inr ⟨fun e => if w e = 1#32 then s e else 0, fun e => by dsimp only; split <;> simp [hs], fun e => ?_⟩
    unfold gated msk
    dsimp only
    split
    · rw [mul_one, h]
    · rw [mul_zero]; rfl

/-! ### The gates -/

/-- Of masked scores each `⊥` or `0` every gate is `0`, whichever experts are kept. -/
theorem gate_bot (g k : Fin 8 → EReal) (hg : ∀ e, g e = ⊥ ∨ g e = 0) (hk : ∀ e, k e = 0 ∨ k e = 1) (e : Fin 8) :
    gate g k e = 0 := by
  have hp : ∀ e, g e * k e = ⊥ ∨ g e * k e = 0 := fun e => by
    rcases hk e with h | h <;> rw [h]
    · exact Or.inr (mul_zero _)
    · rw [mul_one]; exact hg e
  unfold gate
  by_cases hb : ∃ e', g e' * k e' = ⊥
  · obtain ⟨e', he'⟩ := hb
    have hs : (∑ e', g e' * k e') = ⊥ := by
      rw [← Finset.add_sum_erase _ _ (Finset.mem_univ e'), he', EReal.bot_add]
    rw [hs, EReal.bot_add]
    unfold Ideal.div
    rw [if_neg (by decide), EReal.inv_bot, mul_zero]
  · have hz : ∀ e', g e' * k e' = 0 := fun e' => (hp e').resolve_left fun h => hb ⟨e', h⟩
    obtain ⟨r, hr, he⟩ := eps_pos
    rw [Finset.sum_eq_zero fun e' _ => hz e', hz e, zero_add, he]
    have := div_real 0 r hr
    rw [zero_mul] at this
    exact this

/-- Every gate is a nonnegative real number. -/
theorem gate_real (l : Fin 8 → EReal) (w : Fin 8 → BitVec 32) (k : Fin 8 → EReal) (hk : ∀ e, k e = 0 ∨ k e = 1) (e : Fin 8) :
    ∃ r : ℝ, 0 ≤ r ∧ gate (gated l w) k e = (r : EReal) := by
  rcases gated_cases l w with h | ⟨s, hs, h⟩
  · exact ⟨0, le_rfl, gate_bot _ k h hk e⟩
  · have hp : ∀ e, ∃ r : ℝ, 0 ≤ r ∧ gated l w e * k e = (r : EReal) := fun e => by
      rcases hk e with hk | hk <;> rw [hk, h]
      · exact ⟨0, le_rfl, mul_zero _⟩
      · exact ⟨s e, hs e, mul_one _⟩
    choose p hp0 hp using hp
    obtain ⟨r, hr, he⟩ := eps_pos
    have hpos : 0 < (∑ e', p e') + r := add_pos_of_nonneg_of_pos (Finset.sum_nonneg fun e' _ => hp0 e') hr
    refine ⟨p e * ((∑ e', p e') + r)⁻¹, mul_nonneg (hp0 e) (inv_nonneg.2 hpos.le), ?_⟩
    unfold gate
    rw [show (∑ e', gated l w e' * k e') = ((∑ e', p e' : ℝ) : EReal) from by
      rw [← sum_coe]; exact Finset.sum_congr rfl fun e' _ => hp e', hp e, he, ← EReal.coe_add, div_real _ _ hpos]

end Cert.Row

end
-- ==== Proof.TopTwo.lean ====
/-
  The two greatest of eight masked scores, an equal score going to the earlier position. The kernel finds them by two
  rounds of "the greatest value, then the first position that holds it", the first round's position overwritten with
  minus one before the second; the reference by a stable sort. Both find the same two positions.
-/
module

public import proofs.«01_k».proof.Proof.Row
public import Idealize.ShloMosaic.Lib.SortPrefix

@[expose] public section

noncomputable section

namespace Cert.Row

open Idealize.ShloMosaic

/-- Position `i` ranks before position `j`: a greater value, or an equal one earlier. -/
def before (g : Fin 8 → EReal) (i j : Fin 8) : Bool :=
  decide (g j < g i) || (decide (g i = g j) && decide (i < j))

/-- Positions `i` and `j` hold the two greatest values, in this order. -/
structure IsTopTwo (g : Fin 8 → EReal) (i j : Fin 8) : Prop where
  ne : i ≠ j
  first : ∀ p, p ≠ i → before g i p = true
  second : ∀ p, p ≠ i → p ≠ j → before g j p = true

/-- Ranking is a strict total order on the positions. -/
theorem before_total (g : Fin 8 → EReal) : StrictTotalBefore (before g) :=
  StrictTotalBefore.of_key_then_position (fun a b : EReal => decide (b < a)) g (by simp)
    (by simp only [decide_eq_true_eq]; exact fun a b c h h' => lt_trans h' h)
    (by simp only [decide_eq_true_eq]; exact fun a b => (lt_trichotomy b a).imp_right (Or.imp_left Eq.symm))

/-! ### The reference: a stable sort -/

/-- A stable sort by the values alone is the sort by rank: positions enter in increasing order. -/
theorem stableSort_values (g : Fin 8 → EReal) (l : List (Fin 8)) (hl : l.Pairwise (· < ·)) :
    stableSort (fun k k' => decide (g k' < g k)) l = stableSort (before g) l := by
  induction l with
  | nil => rfl
  | cons a l ih =>
    rw [List.pairwise_cons] at hl
    show insertBefore _ a (stableSort _ l) = insertBefore _ a (stableSort _ l)
    rw [ih hl.2]
    refine insertBefore_congr _ _ a _ fun b hb => ?_
    have hab := hl.1 b ((perm_stableSort _ l).mem_iff.1 hb)
    unfold before
    rw [decide_eq_false (not_lt_of_gt hab), Bool.and_false, Bool.or_false]

/-- The first two positions of a stable sort by the values, greatest first, are the two greatest. -/
theorem sortedFrom_topTwo (g : Fin 8 → EReal) (i j : Fin 8) (h : IsTopTwo g i j) :
    sortedFrom (fun k k' => decide (g k' < g k)) 0 = i ∧ sortedFrom (fun k k' => decide (g k' < g k)) 1 = j := by
  have hs : sortPositions 8 (fun k k' => decide (g k' < g k)) = sortPositions 8 (before g) :=
    stableSort_values g _ (List.pairwise_lt_finRange 8)
  have hf : sortedFrom (fun k k' => decide (g k' < g k)) = sortedFrom (before g) := by
    funext k; unfold sortedFrom; exact List.get_of_eq hs _
  rw [hf]
  have key := (before_total g).sortedFrom_eq_of_prefix (k := 2) (by decide) ![i, j]
    (by
      intro a b hab
      fin_cases a <;> fin_cases b <;> first | rfl | exact absurd hab h.ne | exact absurd hab.symm h.ne)
    (by
      intro a b hab
      fin_cases a <;> fin_cases b <;> first | exact absurd hab (by decide) | exact (before_total g).asymm _ _ (h.first j h.ne.symm))
    (by
      intro a p hp
      have hi : p ≠ i := fun e => hp 0 e.symm
      have hj : p ≠ j := fun e => hp 1 e.symm
      fin_cases a
      · exact (before_total g).asymm _ _ (h.first p hi)
      · exact (before_total g).asymm _ _ (h.second p hi hj))
  exact ⟨key 0, key 1⟩

/-! ### The kernel: two rounds of the first greatest -/

/-- The kernel's word for the first position with a property: the least of the positions that have it, `8` standing for
    one that has not. -/
def firstWord (p : Fin 8 → Prop) [DecidablePred p] : BitVec 32 :=
  Finset.univ.fold IntOp.minsi 2147483647#32 fun e : Fin 8 => if p e then BitVec.ofNat 32 e.val else 8#32

set_option maxRecDepth 100000 in
/-- A position's word is that word exactly when it is the first with the property. -/
theorem firstWord_bool : ∀ (p : Fin 8 → Bool) (e : Fin 8),
    (BitVec.ofNat 32 e.val = firstWord fun e => p e = true) ↔ (p e = true ∧ ∀ e' < e, p e' = false) := by
  decide +kernel

/-- A position's word is the first word of a property exactly when it is the first position that has it. -/
theorem eq_firstWord_iff (p : Fin 8 → Prop) [DecidablePred p] (e : Fin 8) :
    BitVec.ofNat 32 e.val = firstWord p ↔ p e ∧ ∀ e' < e, ¬p e' := by
  have h := firstWord_bool (fun e => decide (p e)) e
  simp only [decide_eq_true_eq, decide_eq_false_iff_not] at h
  exact h

attribute [local irreducible] firstWord

/-- A position's word is the first word of a property exactly when it is the property's first position. -/
theorem eq_firstWord_first (p : Fin 8 → Prop) [DecidablePred p] (i : Fin 8) (hi : p i) (hi' : ∀ e < i, ¬p e) (e : Fin 8) :
    BitVec.ofNat 32 e.val = firstWord p ↔ e = i := by
  rw [eq_firstWord_iff]
  refine ⟨fun h => ?_, fun h => h ▸ ⟨hi, hi'⟩⟩
  rcases lt_trichotomy e i with hlt | heq | hgt
  · exact absurd h.1 (hi' e hlt)
  · exact heq
  · exact absurd hi (h.2 i hgt)

/-- A property that some position has, has a first position. -/
theorem exists_first (p : Fin 8 → Prop) (h : ∃ e, p e) : ∃ e, p e ∧ ∀ e' < e, ¬p e' := by
  classical
  obtain ⟨e, he, hmin⟩ := Finset.exists_min_image (Finset.univ.filter p) id (by simpa [Finset.Nonempty] using h)
  rw [Finset.mem_filter] at he
  exact ⟨e, he.2, fun e' hlt hp => absurd hlt (not_lt_of_ge (hmin e' (by simp [hp])))⟩

/-- The kernel's word for the first greatest of the values. -/
def word₁ (g : Fin 8 → EReal) : BitVec 32 := firstWord fun e => g e = top g

/-- The values with the first greatest replaced by minus one. -/
def rest (g : Fin 8 → EReal) (e : Fin 8) : EReal :=
  Scalar.select (IntOp.cmpi .eq (BitVec.ofNat 32 e.val) (word₁ g)) (-1) (g e)

/-- What is left after the first round: minus one at the place that it took, the scores elsewhere. -/
theorem rest_eq (g : Fin 8 → EReal) (e : Fin 8) : rest g e = if BitVec.ofNat 32 e.val = word₁ g then -1 else g e := by
  unfold rest Scalar.select IntOp.cmpi
  by_cases h : BitVec.ofNat 32 e.val = word₁ g
  · rw [if_pos h, h]; simp
  · have hb : (BitVec.ofNat 32 e.val == word₁ g) = false := beq_eq_false_iff_ne.2 h
    rw [if_neg h]; simp [hb]

/-- The kernel's word for the second greatest. -/
def word₂ (g : Fin 8 → EReal) : BitVec 32 := firstWord fun e => rest g e = top (rest g)

/-- Which positions the kernel keeps, as zeros and ones. -/
def kept (g : Fin 8 → EReal) (e : Fin 8) : EReal :=
  if BitVec.ofNat 32 e.val = word₁ g ∨ BitVec.ofNat 32 e.val = word₂ g then 1 else 0

/-- A place is kept or not. -/
theorem kept_cases (g : Fin 8 → EReal) (e : Fin 8) : kept g e = 0 ∨ kept g e = 1 := by
  unfold kept; split
  · exact Or.inr rfl
  · exact Or.inl rfl

/-- The first position of the greatest value ranks before every other. -/
theorem before_of_first (g : Fin 8 → EReal) (i : Fin 8) (h : g i = top g) (hi : ∀ e < i, ¬g e = top g) (p : Fin 8) (hp : p ≠ i) :
    before g i p = true := by
  unfold before
  rw [Bool.or_eq_true, Bool.and_eq_true, decide_eq_true_iff, decide_eq_true_iff, decide_eq_true_iff]
  rcases lt_or_eq_of_le (h ▸ le_top g p) with hlt | heq
  · exact Or.inl hlt
  · refine Or.inr ⟨heq.symm, lt_of_le_of_ne (not_lt.1 fun hlt => hi p hlt ?_) hp.symm⟩
    rw [heq, h]

/-- The kernel's two rounds keep the two greatest of nonnegative values. -/
theorem kept_topTwo (g : Fin 8 → EReal) (hg : ∀ e, 0 ≤ g e) :
    ∃ i j, IsTopTwo g i j ∧ ∀ e, kept g e = if e = i ∨ e = j then 1 else 0 := by
  obtain ⟨i, hi, hi'⟩ := exists_first (fun e => g e = top g) (exists_top g)
  obtain ⟨j, hj, hj'⟩ := exists_first (fun e => rest g e = top (rest g)) (exists_top (rest g))
  have h₁ (e : Fin 8) : BitVec.ofNat 32 e.val = word₁ g ↔ e = i := eq_firstWord_first (fun e => g e = top g) i hi hi' e
  have h₂ (e : Fin 8) : BitVec.ofNat 32 e.val = word₂ g ↔ e = j := eq_firstWord_first (fun e => rest g e = top (rest g)) j hj hj' e
  have hrest (e : Fin 8) : rest g e = if e = i then -1 else g e := by
    rw [rest_eq]; simp only [h₁]
  have hneg : (-1 : EReal) < 0 := by
    have : ((-1 : ℝ) : EReal) < ((0 : ℝ) : EReal) := EReal.coe_lt_coe_iff.2 (by norm_num)
    simpa using this
  have hne : i ≠ j := by
    rintro rfl
    obtain ⟨p, hp⟩ : ∃ p, p ≠ i := exists_ne i
    have h := le_top (rest g) p
    rw [← hj, hrest, hrest, if_pos rfl, if_neg hp] at h
    exact absurd (lt_of_lt_of_le hneg (hg p)) (not_lt_of_ge h)
  refine ⟨i, j, ⟨hne, before_of_first g i hi hi', fun p hpi hpj => ?_⟩, fun e => ?_⟩
  · have h := before_of_first (rest g) j hj hj' p hpj
    unfold before at h ⊢
    rwa [hrest, hrest, if_neg hpi, if_neg hne.symm] at h
  · unfold kept
    simp only [h₁, h₂]

end Cert.Row

end
-- ==== Proof.BlockValue.lean ====
/-
  What one grid point of the kernel computes, over the extended reals and at an index: each row of a block is a function of
  that row's logits and mask words (and, for the first result, of the row's padded curves and the weights).
-/
module

public import proofs.«01_k».proof.Proof.Block
public import proofs.«01_k».proof.Proof.TopTwo
public import Idealize.ShloMosaic.Lib.Pointwise

@[expose] public section

set_option maxRecDepth 16384

noncomputable section

namespace Cert.KernelIdeal.Body

open Cert.KernelIdeal Cert.KernelIdeal.Gen Cert.Row
open Idealize.ShloMosaic

/-- Row `r` of a block of eight columns. -/
abbrev row {α : Type} (x : S256x8.Idx → α) (r : Fin 256) : Fin 8 → α := fun e => x (ix2 r e)

/-- A flag widened to a word and read as a number. -/
theorem sitofp_flag (b : BitVec 1) : (FloatOps.sitofp .f32 (b.setWidth 32) : Ideal .f32) = if b = 1#1 then (1 : EReal) else 0 := by
  have h : ∀ b : BitVec 1, (b.setWidth 32).toInt = if b = 1#1 then 1 else 0 := by decide
  show (((b.setWidth 32).toInt : ℝ) : EReal) = _
  rw [h]
  split <;> simp

/-- The comparison for equality gives one exactly of equal words. -/
theorem cmpi_eq_one {w : Nat} (a b : BitVec w) : IntOp.cmpi .eq a b = 1#1 ↔ a = b := by
  unfold IntOp.cmpi
  by_cases h : a = b
  · simp [h]
  · have hb : (a == b) = false := beq_eq_false_iff_ne.2 h
    simp [h, hb]

/-- The union of two flags is one exactly where one of them is. -/
theorem ori_eq_one (a b : BitVec 1) : IntOp.ori a b = 1#1 ↔ a = 1#1 ∨ b = 1#1 := by
  revert a b; decide

/-- A row's masks as zeros and ones. -/
theorem pay2_apply (x2 : Vec Ideal S256x8 .i32) (r : Fin 256) (e : Fin 8) :
    k0_pay2 (F := Ideal) x2 (ix2 r e) = msk (x2 (ix2 r e)) := by
  pointwise [k0_pay2]
  rw [sitofp_flag]
  simp only [cmpi_eq_one]
  rfl

/-- A row's softmax scores. -/
theorem pay3_apply (x1 : Vec Ideal S256x8 .f32) (r : Fin 256) (e : Fin 8) :
    k0_pay3 (F := Ideal) x1 (ix2 r e) = soft (row x1 r) e := by
  pointwise [k0_pay3]
  rw [ofBits_bot]
  rfl

/-- A row's masked scores. -/
theorem pay4_apply (x1 : Vec Ideal S256x8 .f32) (x2 : Vec Ideal S256x8 .i32) (r : Fin 256) (e : Fin 8) :
    k0_pay4 (F := Ideal) x1 x2 (ix2 r e)
      = gated (row x1 r) (row x2 r) e * kept (gated (row x1 r) (row x2 r)) e := by
  have hg : (fun e => mulf (k0_pay3 (F := Ideal) x1) (k0_pay2 x2) (ix2 r e)) = gated (row x1 r) (row x2 r) := by
    funext e
    show k0_pay3 (F := Ideal) x1 (ix2 r e) * k0_pay2 (F := Ideal) x2 (ix2 r e) = _
    rw [pay3_apply, pay2_apply]; rfl
  rw [← hg]
  unfold k0_pay4
  generalize mulf (k0_pay3 (F := Ideal) x1) (k0_pay2 x2) = g
  pointwise
  rw [sitofp_flag]
  simp only [ori_eq_one, cmpi_eq_one, ofBits_bot, ofBits_neg_one]
  rfl

/-- A row's gates. -/
theorem gates_apply (x1 : Vec Ideal S256x8 .f32) (x2 : Vec Ideal S256x8 .i32) (r : Fin 256) (e : Fin 8) :
    gates (F := Ideal) x1 x2 (ix2 r e)
      = gate (gated (row x1 r) (row x2 r)) (kept (gated (row x1 r) (row x2 r))) e := by
  pointwise [gates, k0_pay6, k0_pay5]
  simp only [pay4_apply]
  rfl

/-- The block's contribution to the guidance loss: the masked scores of its rows added up. -/
theorem part_apply (x1 : Vec Ideal S256x8 .f32) (x2 : Vec Ideal S256x8 .i32) (a b : Fin 1) :
    part (F := Ideal) x1 x2 (ix2 a b) = ∑ r, ∑ e, gated (row x1 r) (row x2 r) e := by
  pointwise [part, k0_pay9]
  simp only [pay3_apply, pay2_apply]
  rfl

/-! ### The matrices of zeros and ones -/

/-- The kernel's rounding-down quotient of two words. -/
def floorDiv (x d : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt d 0#32)) (Scalar.extui (Scalar.cmpi CmpIPredicate.slt d 0#32))))
      (IntOp.cmpi CmpIPredicate.ne (IntOp.remsi ArithUnit.vector x d) 0#32))
    (IntOp.subi (IntOp.divsi ArithUnit.vector x d) 1#32)
    (IntOp.divsi ArithUnit.vector x d)

/-- The kernel's remainder of a word by another, with the divisor's sign. -/
def floorMod (x d : BitVec 32) : BitVec 32 :=
  let d' := Scalar.select (Scalar.cmpi CmpIPredicate.eq d 0#32) 1#32 d
  Scalar.select
    (IntOp.andi
      (IntOp.xori (IntOp.cmpi CmpIPredicate.slt (IntOp.remsi ArithUnit.vector x d') 0#32) (Scalar.cmpi CmpIPredicate.slt d' 0#32))
      (IntOp.cmpi CmpIPredicate.ne (IntOp.remsi ArithUnit.vector x d') 0#32))
    (IntOp.addi (IntOp.remsi ArithUnit.vector x d') d')
    (IntOp.remsi ArithUnit.vector x d')

/-- Below 512 the rounding-down quotient by 64 is the quotient of the numbers. -/
theorem floorDiv_64 : ∀ j : Fin 512, floorDiv (BitVec.ofNat 32 j.val) 64#32 = BitVec.ofNat 32 (j.val / 64) := by decide +kernel
/-- Below 1024 the rounding-down quotient by 128 is the quotient of the numbers. -/
theorem floorDiv_128 : ∀ j : Fin 1024, floorDiv (BitVec.ofNat 32 j.val) 128#32 = BitVec.ofNat 32 (j.val / 128) := by decide +kernel
/-- Below 512 the rounding-down remainder by 64 is the remainder of the numbers. -/
theorem floorMod_64 : ∀ j : Fin 512, floorMod (BitVec.ofNat 32 j.val) 64#32 = BitVec.ofNat 32 (j.val % 64) := by decide +kernel

/-- Two small numbers are equal when their words are. -/
theorem ofNat_inj {a b : Nat} (ha : a < 1024) (hb : b < 1024) : BitVec.ofNat 32 a = BitVec.ofNat 32 b ↔ a = b := by
  refine ⟨fun h => ?_, fun h => h ▸ rfl⟩
  have := congrArg BitVec.toNat h
  rwa [BitVec.toNat_ofNat, BitVec.toNat_ofNat, Nat.mod_eq_of_lt (by omega), Nat.mod_eq_of_lt (by omega)] at this

/-- A sum over the experts in which only one term is not multiplied by zero. -/
theorem sum_pick (f : Fin 8 → EReal) (n : Nat) (hn : n < 8) :
    (∑ e : Fin 8, f e * if n = e.val then (1 : EReal) else 0) = f ⟨n, hn⟩ := by
  rw [Finset.sum_eq_single (⟨n, hn⟩ : Fin 8)]
  · rw [if_pos rfl, mul_one]
  · intro e _ he
    rw [if_neg fun h => he (Fin.ext h.symm), mul_zero]
  · exact fun h => absurd (Finset.mem_univ _) h

/-- The gates spread over the 512 columns: column `j` holds the gate of expert `j / 64`. -/
theorem pay13_apply (g : FVec Ideal S256x8 .f32) (r : Fin 256) (j : Fin 512) :
    k0_pay13 (F := Ideal) g (ix2 r j) = g (ix2 r ⟨j.val / 64, by omega⟩) := by
  pointwise [k0_pay13, k0_pay12]
  rw [← sum_pick (fun e => g (ix2 r e)) (j.val / 64) (by omega)]
  refine Finset.sum_congr rfl fun e _ => congrArg (g (ix2 r e) * ·) ?_
  rw [sitofp_flag]
  simp only [cmpi_eq_one]
  change (if floorDiv (BitVec.ofNat 32 j.val) 64#32 = BitVec.ofNat 32 e.val then (1 : EReal) else 0) = _
  rw [floorDiv_64]
  simp only [ofNat_inj (show j.val / 64 < 1024 by omega) (show e.val < 1024 by omega)]

/-- The gates times the biases. -/
theorem pay14_apply (g : FVec Ideal S256x8 .f32) (x5 : Vec Ideal S8x64 .f32) (r : Fin 256) (o : Fin 64) :
    k0_pay14 (F := Ideal) g x5 (ix2 r o) = ∑ e, g (ix2 r e) * x5 (ix2 e o) := by
  pointwise [k0_pay14, k0_pay12]

/-- The matrix that adds up the experts: entry `(j, o)` is one exactly when `j` is `o` modulo 64. -/
theorem ones_apply (j : Fin 512) (o : Fin 64) :
    ones (F := Ideal) (ix2 j o) = if j.val % 64 = o.val then (1 : EReal) else 0 := by
  pointwise [ones, k0_pay15]
  rw [sitofp_flag]
  simp only [cmpi_eq_one]
  change (if floorMod (BitVec.ofNat 32 j.val) 64#32 = BitVec.ofNat 32 o.val then (1 : EReal) else 0) = _
  rw [floorMod_64]
  simp only [ofNat_inj (show j.val % 64 < 1024 by omega) (show o.val < 1024 by omega)]

/-- The inactive weights spread over the 1024 columns: column `j` holds the weight of expert `j / 128`. -/
theorem pay7_apply (x1 : Vec Ideal S256x8 .f32) (x2 : Vec Ideal S256x8 .i32) (r : Fin 256) (j : Fin 1024) :
    k0_pay7 (F := Ideal) (k0_pay2 x2) (k0_pay3 x1) (ix2 r j) = inact (row x1 r) (row x2 r) ⟨j.val / 128, by omega⟩ := by
  pointwise [k0_pay7]
  simp only [pay3_apply, pay2_apply]
  rw [← sum_pick (fun e => inact (row x1 r) (row x2 r) e) (j.val / 128) (by omega)]
  refine Finset.sum_congr rfl fun e _ => congrArg₂ (· * ·) rfl ?_
  rw [sitofp_flag]
  simp only [cmpi_eq_one]
  change (if floorDiv (BitVec.ofNat 32 j.val) 128#32 = BitVec.ofNat 32 e.val then (1 : EReal) else 0) = _
  rw [floorDiv_128]
  simp only [ofNat_inj (show j.val / 128 < 1024 by omega) (show e.val < 1024 by omega)]

/-- The block of the selection embedding: each row's embeddings added up with the row's inactive weights. -/
theorem selBlk_apply (x1 : Vec Ideal S256x8 .f32) (x2 : Vec Ideal S256x8 .i32) (x3 : Vec Ideal S256x8x128 .f32) (r : Fin 256) (o : Fin 128) :
    selBlk (F := Ideal) x1 x2 x3 (ix2 r o) = ∑ e, inact (row x1 r) (row x2 r) e * x3 (ix3 r e o) := by
  unfold selBlk
  pointwise [k0_pay8]
  simp only [pay7_apply]
  rw [Fin.sum_univ_eight]
  have h (n : Nat) (e : Fin 8) (hn : n / 128 < 8) (he : n / 128 = e.val) : (⟨n / 128, hn⟩ : Fin 8) = e := Fin.ext he
  have ho := o.isLt
  rw [h o.val 0 _ (show o.val / 128 = 0 by omega), h (128 + o.val) 1 _ (show (128 + o.val) / 128 = 1 by omega),
    h (256 + o.val) 2 _ (show (256 + o.val) / 128 = 2 by omega), h (384 + o.val) 3 _ (show (384 + o.val) / 128 = 3 by omega),
    h (512 + o.val) 4 _ (show (512 + o.val) / 128 = 4 by omega), h (640 + o.val) 5 _ (show (640 + o.val) / 128 = 5 by omega),
    h (768 + o.val) 6 _ (show (768 + o.val) / 128 = 6 by omega), h (896 + o.val) 7 _ (show (896 + o.val) / 128 = 7 by omega)]

/-! ### The first result -/

/-- Each of the ten rows is one product with all the experts' weights at once, scaled by the gates spread over the columns,
    added up by the matrix of zeros and ones, plus the gated biases. -/
theorem rows_products (x0 : Vec Ideal S256x3840 .bf16) (x1 : Vec Ideal S256x8 .f32) (x2 : Vec Ideal S256x8 .i32)
    (x4 : Vec Ideal S384x512 .bf16) (x5 : Vec Ideal S8x64 .f32) (l : Fin 10) (r : Fin 256) (o : Fin 64) :
    rows (F := Ideal) x0 x1 x2 x4 x5 l (ix3 r 0 o)
      = (∑ j : Fin 512, (∑ k : Fin 384, x0 (ix2 r ⟨384 * l.val + k.val, by omega⟩) * x4 (ix2 k j))
            * k0_pay13 (F := Ideal) (gates x1 x2) (ix2 r j) * ones (F := Ideal) (ix2 j o))
          + k0_pay14 (F := Ideal) (gates x1 x2) x5 (ix2 r o) := by
  unfold rows
  dsimp only
  generalize k0_pay13 (F := Ideal) (gates x1 x2) = gf
  generalize k0_pay14 (F := Ideal) (gates x1 x2) x5 = gb
  fin_cases l
  · show k0_pay18 (F := Ideal) _ _ _ _ _ _ _ _ _ = _
    pointwise [k0_pay18, k0_pay16, k0_pay17]
  · show k0_pay20 (F := Ideal) (k0_pay19 gf gb (iota .tc S512x64 32 [0] iota_S512x64_d0_w32)
      (iota .tc S512x64 32 [1] iota_S512x64_d1_w32) 64#32 0#32 x0 x4) (ix3 r 0 o) = _
    pointwise [k0_pay20, k0_pay19, k0_pay16, k0_pay17]
  · show k0_pay21 (F := Ideal) _ _ _ _ _ _ = _
    pointwise [k0_pay21, k0_pay16, k0_pay17]
  · show k0_pay22 (F := Ideal) _ _ _ _ _ _ = _
    pointwise [k0_pay22, k0_pay16, k0_pay17]
  · show k0_pay23 (F := Ideal) _ _ _ _ _ _ = _
    pointwise [k0_pay23, k0_pay16, k0_pay17]
  · show k0_pay25 (F := Ideal) _ (ix3 r 0 o) = _
    pointwise [k0_pay25, k0_pay24, k0_pay16, k0_pay17]
  · show k0_pay26 (F := Ideal) _ _ _ _ _ _ = _
    pointwise [k0_pay26, k0_pay16, k0_pay17]
  · show k0_pay27 (F := Ideal) _ _ _ _ _ _ = _
    pointwise [k0_pay27, k0_pay16, k0_pay17]
  · show k0_pay28 (F := Ideal) _ _ _ _ _ _ = _
    pointwise [k0_pay28, k0_pay16, k0_pay17]
  · show k0_pay1 (F := Ideal) _ _ _ _ = _
    pointwise [k0_pay1, k0_pay29, k0_pay16, k0_pay17]

/-- Adding up the columns of one output position: one term for each expert. -/
theorem sum_experts (f : Fin 512 → EReal) (o : Fin 64) :
    (∑ j : Fin 512, f j * if j.val % 64 = o.val then (1 : EReal) else 0) = ∑ e : Fin 8, f ⟨e.val * 64 + o.val, by omega⟩ := by
  rw [Fin.sum_univ_tiles 8 64 rfl]
  refine Finset.sum_congr rfl fun e _ => ?_
  rw [Finset.sum_eq_single o]
  · rw [if_pos (show (e.val * 64 + o.val) % 64 = o.val by omega), mul_one]
  · intro t _ ht
    rw [if_neg (show ¬(e.val * 64 + t.val) % 64 = o.val from fun h => ht (Fin.ext (by omega))), mul_zero]
  · exact fun h => absurd (Finset.mem_univ _) h

/-- The block of `final_out`: each expert's product scaled by its gate, added up, plus the gated biases. -/
theorem outBlk_apply (x0 : Vec Ideal S256x3840 .bf16) (x1 : Vec Ideal S256x8 .f32) (x2 : Vec Ideal S256x8 .i32)
    (x4 : Vec Ideal S384x512 .bf16) (x5 : Vec Ideal S8x64 .f32) (r : Fin 256) (l : Fin 10) (o : Fin 64) :
    outBlk (F := Ideal) x0 x1 x2 x4 x5 (ix3 r l o)
      = (∑ e : Fin 8, (∑ k : Fin 384, x0 (ix2 r ⟨384 * l.val + k.val, by omega⟩) * x4 (ix2 k ⟨e.val * 64 + o.val, by omega⟩))
            * gate (gated (row x1 r) (row x2 r)) (kept (gated (row x1 r) (row x2 r))) e)
          + ∑ e : Fin 8, gate (gated (row x1 r) (row x2 r)) (kept (gated (row x1 r) (row x2 r))) e * x5 (ix2 e o) := by
  show rows (F := Ideal) x0 x1 x2 x4 x5 l (ix3 r 0 o) = _
  rw [rows_products]
  simp only [ones_apply, pay13_apply, pay14_apply, gates_apply]
  rw [sum_experts]
  refine congrArg (· + _) (Finset.sum_congr rfl fun e _ => ?_)
  have h : (⟨(e.val * 64 + o.val) / 64, by omega⟩ : Fin 8) = e := Fin.ext (by show (e.val * 64 + o.val) / 64 = e.val; omega)
  rw [h]

end Cert.KernelIdeal.Body

end
-- ==== Proof.Reads.lean ====
/-
  Where each window's block sits in its array: block `t` of a batched array is its rows `256 t` to `256 t + 255`, and the
  weight and the bias windows hold their whole arrays.
-/
module

public import proofs.«01_k».proof.Proof.Launch
public import proofs.«01_k».proof.Proof.BlockValue

@[expose] public section

set_option maxRecDepth 16384

noncomputable section

namespace Cert.KernelIdeal.Body

open Cert.KernelIdeal Cert.KernelIdeal.Gen
open Idealize.ShloMosaic Idealize.ShloMosaic.TcCoe

variable {F : FTy → Type} [FloatOps F]
variable (m : (ℓ : Loc nD τ sig) → Buf (Elt F) ℓ)

/-- Row `r` of block `t` in the whole batch. -/
abbrev gr (t : Fin cfg0.N) (r : Fin 256) : Fin 2048 :=
  ⟨256 * t.val + r.val, by have := Nat.lt_of_lt_of_eq t.isLt N_0; have := r.isLt; omega⟩

/-- Each window's block index: the point on the batch axis of a batched array, zero everywhere else. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 3) = t.val ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 3) = t.val ∧ win0_6.index t (1 : Fin 3) = 0 ∧ win0_6.index t (2 : Fin 3) = 0)
    ∧ (win0_7.index t (0 : Fin 2) = 0 ∧ win0_7.index t (1 : Fin 2) = 0)
    ∧ (win0_8.index t (0 : Fin 2) = t.val ∧ win0_8.index t (1 : Fin 2) = 0) :=
  (by decide +kernel : ∀ t : Fin grid0.N, _)

/-! ## Where an entry of a block of each window sits in its array -/

theorem emb0 (t : Fin cfg0.N) (r : Fin 256) (k : Fin 3840) : ((cfg0.win 0).blk t).view.emb (ix2 r k) = ix2 (gr t r) k := by
  obtain ⟨⟨e0, e1⟩, -⟩ := idx_facts t
  funext a; apply Fin.ext
  match a with
  | ⟨0, _⟩ => show win0_0.index t (0 : Fin 2) * 256 + 1 * r.val = 256 * t.val + r.val; omega
  | ⟨1, _⟩ => show win0_0.index t (1 : Fin 2) * 3840 + 1 * k.val = k.val; omega

theorem emb1 (t : Fin cfg0.N) (r : Fin 256) (k : Fin 8) : ((cfg0.win 1).blk t).view.emb (ix2 r k) = ix2 (gr t r) k := by
  obtain ⟨-, ⟨e0, e1⟩, -⟩ := idx_facts t
  funext a; apply Fin.ext
  match a with
  | ⟨0, _⟩ => show win0_1.index t (0 : Fin 2) * 256 + 1 * r.val = 256 * t.val + r.val; omega
  | ⟨1, _⟩ => show win0_1.index t (1 : Fin 2) * 8 + 1 * k.val = k.val; omega

theorem emb2 (t : Fin cfg0.N) (r : Fin 256) (k : Fin 8) : ((cfg0.win 2).blk t).view.emb (ix2 r k) = ix2 (gr t r) k := by
  obtain ⟨-, -, ⟨e0, e1⟩, -⟩ := idx_facts t
  funext a; apply Fin.ext
  match a with
  | ⟨0, _⟩ => show win0_2.index t (0 : Fin 2) * 256 + 1 * r.val = 256 * t.val + r.val; omega
  | ⟨1, _⟩ => show win0_2.index t (1 : Fin 2) * 8 + 1 * k.val = k.val; omega

theorem emb3 (t : Fin cfg0.N) (r : Fin 256) (k : Fin 8) (o : Fin 128) :
    ((cfg0.win 3).blk t).view.emb (ix3 r k o) = ix3 (gr t r) k o := by
  obtain ⟨-, -, -, ⟨e0, e1, e2⟩, -⟩ := idx_facts t
  funext a; apply Fin.ext
  match a with
  | ⟨0, _⟩ => show win0_3.index t (0 : Fin 3) * 256 + 1 * r.val = 256 * t.val + r.val; omega
  | ⟨1, _⟩ => show win0_3.index t (1 : Fin 3) * 8 + 1 * k.val = k.val; omega
  | ⟨2, _⟩ => show win0_3.index t (2 : Fin 3) * 128 + 1 * o.val = o.val; omega

theorem emb4 (t : Fin cfg0.N) (r : Fin 384) (k : Fin 512) : ((cfg0.win 4).blk t).view.emb (ix2 r k) = ix2 r k := by
  obtain ⟨-, -, -, -, ⟨e0, e1⟩, -⟩ := idx_facts t
  funext a; apply Fin.ext
  match a with
  | ⟨0, _⟩ => show win0_4.index t (0 : Fin 2) * 384 + 1 * r.val = r.val; omega
  | ⟨1, _⟩ => show win0_4.index t (1 : Fin 2) * 512 + 1 * k.val = k.val; omega

theorem emb5 (t : Fin cfg0.N) (r : Fin 8) (k : Fin 64) : ((cfg0.win 5).blk t).view.emb (ix2 r k) = ix2 r k := by
  obtain ⟨-, -, -, -, -, ⟨e0, e1⟩, -⟩ := idx_facts t
  funext a; apply Fin.ext
  match a with
  | ⟨0, _⟩ => show win0_5.index t (0 : Fin 2) * 8 + 1 * r.val = r.val; omega
  | ⟨1, _⟩ => show win0_5.index t (1 : Fin 2) * 64 + 1 * k.val = k.val; omega

theorem emb6 (t : Fin cfg0.N) (r : Fin 256) (k : Fin 10) (o : Fin 64) :
    ((cfg0.win 6).blk t).view.emb (ix3 r k o) = ix3 (gr t r) k o := by
  obtain ⟨-, -, -, -, -, -, ⟨e0, e1, e2⟩, -⟩ := idx_facts t
  funext a; apply Fin.ext
  match a with
  | ⟨0, _⟩ => show win0_6.index t (0 : Fin 3) * 256 + 1 * r.val = 256 * t.val + r.val; omega
  | ⟨1, _⟩ => show win0_6.index t (1 : Fin 3) * 10 + 1 * k.val = k.val; omega
  | ⟨2, _⟩ => show win0_6.index t (2 : Fin 3) * 64 + 1 * o.val = o.val; omega

theorem emb7 (t : Fin cfg0.N) (r : Fin 1) (k : Fin 1) : ((cfg0.win 7).blk t).view.emb (ix2 r k) = ix2 r k := by
  obtain ⟨-, -, -, -, -, -, -, ⟨e0, e1⟩, -⟩ := idx_facts t
  funext a; apply Fin.ext
  match a with
  | ⟨0, _⟩ => show win0_7.index t (0 : Fin 2) * 1 + 1 * r.val = r.val; omega
  | ⟨1, _⟩ => show win0_7.index t (1 : Fin 2) * 1 + 1 * k.val = k.val; omega

theorem emb8 (t : Fin cfg0.N) (r : Fin 256) (k : Fin 128) : ((cfg0.win 8).blk t).view.emb (ix2 r k) = ix2 (gr t r) k := by
  obtain ⟨-, -, -, -, -, -, -, -, ⟨e0, e1⟩⟩ := idx_facts t
  funext a; apply Fin.ext
  match a with
  | ⟨0, _⟩ => show win0_8.index t (0 : Fin 2) * 256 + 1 * r.val = 256 * t.val + r.val; omega
  | ⟨1, _⟩ => show win0_8.index t (1 : Fin 2) * 128 + 1 * k.val = k.val; omega

/-! ## The input blocks, read off the arrays the launch is given -/

theorem b0_apply (c : Dev nD) (t : Fin cfg0.N) (r : Fin 256) (k : Fin 3840) :
    b0 m c t (ix2 r k) = V m c main_call0_v2 (ix2 (gr t r) k) := by
  show V m c main_call0_v2 (((cfg0.win 0).blk t).view.emb (ix2 r k)) = _
  rw [emb0]

theorem b1_apply (c : Dev nD) (t : Fin cfg0.N) (r : Fin 256) (k : Fin 8) :
    b1 m c t (ix2 r k) = m ((c : Thread nD τ).loc main_arg1) (ix2 (gr t r) k) := by
  show V m c main_arg1 (((cfg0.win 1).blk t).view.emb (ix2 r k)) = _
  rw [emb1, V_main_arg1]

theorem b2_apply (c : Dev nD) (t : Fin cfg0.N) (r : Fin 256) (k : Fin 8) :
    b2 m c t (ix2 r k) = m ((c : Thread nD τ).loc main_arg2) (ix2 (gr t r) k) := by
  show V m c main_arg2 (((cfg0.win 2).blk t).view.emb (ix2 r k)) = _
  rw [emb2, V_main_arg2]

theorem b3_apply (c : Dev nD) (t : Fin cfg0.N) (r : Fin 256) (k : Fin 8) (o : Fin 128) :
    b3 m c t (ix3 r k o) = m ((c : Thread nD τ).loc main_arg3) (ix3 (gr t r) k o) := by
  show V m c main_arg3 (((cfg0.win 3).blk t).view.emb (ix3 r k o)) = _
  rw [emb3, V_main_arg3]

theorem b4_apply (c : Dev nD) (t : Fin cfg0.N) (r : Fin 384) (k : Fin 512) :
    b4 m c t (ix2 r k) = V m c main_call0_v6 (ix2 r k) := by
  show V m c main_call0_v6 (((cfg0.win 4).blk t).view.emb (ix2 r k)) = _
  rw [emb4]

theorem b5_apply (c : Dev nD) (t : Fin cfg0.N) (r : Fin 8) (k : Fin 64) :
    b5 m c t (ix2 r k) = m ((c : Thread nD τ).loc main_arg5) (ix2 r k) := by
  show V m c main_arg5 (((cfg0.win 5).blk t).view.emb (ix2 r k)) = _
  rw [emb5, V_main_arg5]

end Cert.KernelIdeal.Body

end
-- ==== Proof.RefStages.lean ====
/-
  The reference's stages over the extended reals, read at an index: the softmax, the masked scores, the selection embedding,
  the guidance loss, and the products with the experts' weights. Each row depends on that row's logits and mask words alone.
-/
module

public import proofs.«01_k».proof.Proof.Gen.ReferenceIdeal.Read
public import proofs.«01_k».proof.Proof.Row
public import Idealize.ShloMosaic.Lib.Pointwise

@[expose] public section

set_option maxRecDepth 16384

noncomputable section

namespace Cert.ReferenceIdeal.Stages

open Cert.ReferenceIdeal Cert.ReferenceIdeal.Gen Cert.ReferenceIdeal.Read Cert.Row
open Idealize.ShloMosaic

/-- Row `r` of an array of eight columns. -/
abbrev row {α : Type} (x : S2048x8.Idx → α) (r : Fin 2048) : Fin 8 → α := fun e => x (ix2 r e)

/-- A row's masks as zeros and ones. -/
theorem mask_apply (x2 : S2048x8.Idx → BitVec 32) (r : Fin 2048) (e : Fin 8) :
    val_main_v4 (F := Ideal) x2 (ix2 r e) = msk (x2 (ix2 r e)) := by
  pointwise [val_main_v4, val_main_v1, val_main_v0, val_main_c, val_main_v2, val_main_v3, val_main_cst, val_main_cst_0]
  unfold Scalar.select IntOp.cmpi msk
  by_cases h : x2 (ix2 r e) = 1#32
  · rw [if_pos h]; simp [h]
  · have hb : (x2 (ix2 r e) == 1#32) = false := beq_eq_false_iff_ne.2 h
    rw [if_neg h]; simp [hb]

/-- The numerator of the softmax. -/
theorem num_apply (x1 : S2048x8.Idx → EReal) (r : Fin 2048) (e : Fin 8) :
    val_main_v11 (F := Ideal) x1 (ix2 r e) = num (row x1 r) e := by
  pointwise [val_main_v11, val_main_v10, val_main_v9, val_main_v8, val_main_v7, val_main_v6, val_main_v5, val_main_cst_1,
    val_main_cst_2]
  rw [ofBits_bot, max_eq_right bot_le]
  rfl

/-- The softmax. -/
theorem soft_apply (x1 : S2048x8.Idx → EReal) (r : Fin 2048) (e : Fin 8) :
    val_main_v15 (F := Ideal) x1 (ix2 r e) = soft (row x1 r) e := by
  pointwise [val_main_v15, val_main_v14, val_main_v13, val_main_v12, val_main_cst_3]
  simp only [num_apply]
  rfl

/-- The masked scores. -/
theorem gated_apply (x1 : S2048x8.Idx → EReal) (x2 : S2048x8.Idx → BitVec 32) (r : Fin 2048) (e : Fin 8) :
    val_main_v16 (F := Ideal) x1 x2 (ix2 r e) = gated (row x1 r) (row x2 r) e := by
  pointwise [val_main_v16]
  rw [soft_apply, mask_apply]
  rfl

/-- The scores of the inactive experts. -/
theorem idle_apply (x1 : S2048x8.Idx → EReal) (x2 : S2048x8.Idx → BitVec 32) (r : Fin 2048) (e : Fin 8) :
    val_main_v19 (F := Ideal) x1 x2 (ix2 r e) = idle (row x1 r) (row x2 r) e := by
  pointwise [val_main_v19, val_main_v18, val_main_v17, val_main_cst_4]
  rw [soft_apply, mask_apply]
  rfl

/-- The weights of the selection embedding. -/
theorem inact_apply (x1 : S2048x8.Idx → EReal) (x2 : S2048x8.Idx → BitVec 32) (r : Fin 2048) (e : Fin 8) :
    val_main_v25 (F := Ideal) x1 x2 (ix2 r e) = inact (row x1 r) (row x2 r) e := by
  pointwise [val_main_v25, val_main_v24, val_main_v23, val_main_v22, val_main_v21, val_main_v20, val_main_cst_5, val_main_cst_6]
  simp only [idle_apply]
  rfl

/-- The selection embedding. -/
theorem selection_apply (x1 : S2048x8.Idx → EReal) (x2 : S2048x8.Idx → BitVec 32) (x3 : S2048x8x128.Idx → EReal) (r : Fin 2048)
    (o : Fin 128) :
    val_main_v29 (F := Ideal) x1 x2 x3 (ix2 r o) = ∑ e, x3 (ix3 r e o) * inact (row x1 r) (row x2 r) e := by
  pointwise [val_main_v29, val_main_v28, val_main_v27, val_main_v26, val_main_cst_7]
  simp only [inact_apply]

/-- The guidance loss, from the sum of all the masked scores. -/
def loss (s : EReal) : EReal :=
  (1 - Ideal.div s (Ideal.ofBits .f32 0x45000000#32)) * (1 - Ideal.div s (Ideal.ofBits .f32 0x45000000#32))

/-- The guidance loss is the loss of the sum of all masked scores. -/
theorem loss_apply (x1 : S2048x8.Idx → EReal) (x2 : S2048x8.Idx → BitVec 32) (i : S_.Idx) :
    val_main_v69 (F := Ideal) x1 x2 i = loss (∑ r, ∑ e, gated (row x1 r) (row x2 r) e) := by
  pointwise [val_main_v69, val_main_v68, val_main_v67, val_main_v66, val_main_v65, val_main_v64, val_main_cst_16, val_main_cst_17,
    val_main_cst_18, val_main_cst_19]
  simp only [soft_apply, mask_apply]
  rfl

/-- One expert's output, biased. -/
theorem expert_apply (x0 : S2048x10x300.Idx → EReal) (x4 : S8x300x64.Idx → EReal) (x5 : S8x64.Idx → EReal) (e : Fin 8)
    (r : Fin 2048) (l : Fin 10) (o : Fin 64) :
    val_main_v61 (F := Ideal) x0 x4 x5 (ix4 e r l o)
      = (∑ k : Fin 300, x4 (ix3 e k o) * x0 (ix3 r l k)) + x5 (ix2 e o) := by
  pointwise [val_main_v61, val_main_v60, val_main_v59, val_main_v58, val_main_v57]

/-- The experts kept, as zeros and ones. -/
abbrev keep (x1 : S2048x8.Idx → EReal) (x2 : S2048x8.Idx → BitVec 32) (r : Fin 2048) : Fin 8 → EReal :=
  row (val_main_v49 (F := Ideal) x1 x2) r

/-- The gates. -/
theorem gates_apply (x1 : S2048x8.Idx → EReal) (x2 : S2048x8.Idx → BitVec 32) (r : Fin 2048) (e : Fin 8) :
    val_main_v56 (F := Ideal) x1 x2 (ix2 r e) = gate (gated (row x1 r) (row x2 r)) (keep x1 x2 r) e := by
  pointwise [val_main_v56, val_main_v55, val_main_v54, val_main_v53, val_main_v52, val_main_v51, val_main_v50, val_main_cst_14,
    val_main_cst_15]
  simp only [gated_apply]
  rfl

/-- The first result. -/
theorem final_apply (x0 : S2048x10x300.Idx → EReal) (x1 : S2048x8.Idx → EReal) (x2 : S2048x8.Idx → BitVec 32)
    (x4 : S8x300x64.Idx → EReal) (x5 : S8x64.Idx → EReal) (r : Fin 2048) (l : Fin 10) (o : Fin 64) :
    val_main_v63 (F := Ideal) x0 x1 x2 x4 x5 (ix3 r l o)
      = ∑ e, gate (gated (row x1 r) (row x2 r)) (keep x1 x2 r) e
          * ((∑ k : Fin 300, x4 (ix3 e k o) * x0 (ix3 r l k)) + x5 (ix2 e o)) := by
  pointwise [val_main_v63, val_main_v62]
  simp only [gates_apply, expert_apply]

end Cert.ReferenceIdeal.Stages

end
-- ==== Proof.Guide.lean ====
/-
  The guidance loss: the launch adds the masked scores up block by block, which is their sum over the whole batch, and its
  last point turns the sum into the loss.
-/
module

public import proofs.«01_k».proof.Proof.Reads
public import proofs.«01_k».proof.Proof.RefStages
public import Idealize.ShloMosaic.Lib.Pointwise

@[expose] public section

set_option maxRecDepth 16384

noncomputable section

namespace Cert.KernelIdeal.Body

open Cert.KernelIdeal Cert.KernelIdeal.Gen Cert.Row
open Idealize.ShloMosaic Idealize.ShloMosaic.TcCoe

variable (m : (ℓ : Loc nD τ sig) → Buf (Elt Ideal) ℓ)

/-- The logits of row `r` of the batch. -/
abbrev logits (c : Dev nD) (r : Fin 2048) : Fin 8 → EReal :=
  Cert.ReferenceIdeal.Stages.row (m ((c : Thread nD τ).loc main_arg1)) r
/-- The masks of row `r` of the batch. -/
abbrev masks (c : Dev nD) (r : Fin 2048) : Fin 8 → BitVec 32 :=
  Cert.ReferenceIdeal.Stages.row (m ((c : Thread nD τ).loc main_arg2)) r

/-- A row of a block of the logits is the batch's. -/
theorem row_b1 (c : Dev nD) (t : Fin cfg0.N) (r : Fin 256) : row (b1 m c t) r = logits m c (gr t r) :=
  funext fun e => b1_apply m c t r e

/-- A row of a block of the masks is the batch's. -/
theorem row_b2 (c : Dev nD) (t : Fin cfg0.N) (r : Fin 256) : row (b2 m c t) r = masks m c (gr t r) :=
  funext fun e => b2_apply m c t r e

/-- The masked scores of block `t`, added up. -/
def blockSum (c : Dev nD) (t : Fin cfg0.N) : EReal :=
  ∑ r : Fin 256, ∑ e, gated (logits m c (gr t r)) (masks m c (gr t r)) e

/-- A point's contribution is its block's sum. -/
theorem part_block (c : Dev nD) (t : Fin cfg0.N) (a b : Fin 1) :
    part (F := Ideal) (b1 m c t) (b2 m c t) (ix2 a b) = blockSum m c t := by
  rw [part_apply]
  unfold blockSum
  refine Finset.sum_congr rfl fun r _ => ?_
  rw [row_b1, row_b2]

/-- The accumulating step adds. -/
theorem pay10_apply (x y : FVec Ideal S1x1 .f32) (a b : Fin 1) :
    k0_pay10 (F := Ideal) x y (ix2 a b) = y (ix2 a b) + x (ix2 a b) := by
  pointwise [k0_pay10]

/-- The last step turns the sum into the loss. -/
theorem pay11_apply (x : FVec Ideal S1x1 .f32) (a b : Fin 1) :
    k0_pay11 (F := Ideal) x (ix2 a b) = Cert.ReferenceIdeal.Stages.loss (x (ix2 a b)) := by
  pointwise [k0_pay11]
  rfl

/-- Before the last point the running value is the sum of the blocks so far. -/
theorem guideAt_sum (c : Dev nD) (a b : Fin 1) : ∀ (n : ℕ) (h : n < cfg0.N), n ≠ 7 →
    guideAt m c n h (ix2 a b) = ∑ s : Fin (n + 1), blockSum m c ⟨s.val, Nat.lt_of_lt_of_le s.isLt h⟩
  | 0, h, _ => by
    rw [Fin.sum_univ_one]
    exact part_block m c ⟨0, h⟩ a b
  | n + 1, h, h7 => by
    have hN : n + 1 < 8 := Nat.lt_of_lt_of_eq h N_0
    have c1 : ¬ k0_cond1 (grid0.coords ⟨n + 1, h⟩) = 1#1 := fun hc => absurd ((cond1_iff ⟨n + 1, h⟩).mp hc) (Nat.succ_ne_zero n)
    have c2 := (cond2_iff ⟨n + 1, h⟩).mpr (Nat.le_add_left 1 n)
    have c3 : ¬ k0_cond3 (grid0.coords ⟨n + 1, h⟩) = 1#1 := fun hc => h7 ((cond3_iff ⟨n + 1, h⟩).mp hc)
    rw [Fin.sum_univ_castSucc]
    unfold guideAt guideStep
    rw [if_neg c1, if_pos c2]
    rw [if_neg c3, pay10_apply, part_block, guideAt_sum c a b n _ (by omega)]
    rfl

/-- The blocks' sums are the sum over the batch. -/
theorem blockSum_sum (c : Dev nD) : (∑ s : Fin 8, blockSum m c ⟨s.val, Nat.lt_of_lt_of_eq s.isLt N_0.symm⟩)
    = ∑ r, ∑ e, gated (logits m c r) (masks m c r) e := by
  rw [Fin.sum_univ_tiles 8 256 rfl]
  refine Finset.sum_congr rfl fun s _ => ?_
  unfold blockSum
  refine Finset.sum_congr rfl fun r _ => ?_
  have hr : gr ⟨s.val, Nat.lt_of_lt_of_eq s.isLt N_0.symm⟩ r
      = ⟨s.val * 256 + r.val, by have := s.isLt; have := r.isLt; omega⟩ := Fin.ext (by show 256 * s.val + r.val = s.val * 256 + r.val; omega)
  rw [hr]

/-- After the last point the running value is the loss of the whole batch. -/
theorem guideAt_last (c : Dev nD) (h : 7 < cfg0.N) (a b : Fin 1) :
    guideAt m c 7 h (ix2 a b)
      = Cert.ReferenceIdeal.Stages.loss (∑ r, ∑ e, gated (logits m c r) (masks m c r) e) := by
  have c1 : ¬ k0_cond1 (grid0.coords ⟨7, h⟩) = 1#1 := fun hc => absurd ((cond1_iff ⟨7, h⟩).mp hc) (Nat.succ_ne_zero 6)
  have c2 := (cond2_iff ⟨7, h⟩).mpr (show 1 ≤ 7 by decide)
  have c3 := (cond3_iff ⟨7, h⟩).mpr rfl
  rw [← blockSum_sum, Fin.sum_univ_castSucc]
  show guideStep (grid0.coords ⟨7, h⟩) (b1 m c ⟨7, h⟩) (b2 m c ⟨7, h⟩) (guideAt m c 6 (Nat.lt_of_succ_lt h)) (ix2 a b) = _
  unfold guideStep
  rw [if_neg c1, if_pos c2]
  rw [if_pos c3, pay11_apply, pay10_apply, part_block, guideAt_sum m c a b 6 _ (by decide)]
  rfl

end Cert.KernelIdeal.Body

end
-- ==== Proof.Prefix.lean ====
/-
  What the host operations before the launch hand it: the tokens' embeddings, each padded with zeros from 300 entries to
  384 and laid side by side, and the experts' matrices side by side, padded with zero rows.
-/
module

public import proofs.«01_k».proof.Proof.Launch
public import Idealize.ShloMosaic.Lib.Pointwise

@[expose] public section

set_option maxRecDepth 16384

noncomputable section

namespace Cert.KernelIdeal.Body

open Cert.KernelIdeal Cert.KernelIdeal.Gen
open Idealize.ShloMosaic Idealize.ShloMosaic.TcCoe

/-- The embeddings as the launch gets them. -/
def xpad (x : Vec Ideal S2048x10x300 .f32) : Vec Ideal S2048x3840 .bf16 :=
  shapeCast S2048x3840 (pad S2048x10x384 ![0, 0, 0] ![0, 0, 84] ![0, 0, 0] (truncf (F := Ideal) .bf16 x bitsLt_bf16_f32)
    (sitofp (F := Ideal) .bf16 (constantI S_ 32 0#32)) pads_S2048x10x300_S2048x10x384_000_000_0840 h_S_) shapeCasts_S2048x10x384_S2048x3840

/-- The experts' matrices as the launch gets them. -/
def wcat (w : Vec Ideal S8x300x64 .f32) : Vec Ideal S384x512 .bf16 :=
  truncf (F := Ideal) .bf16 (pad S384x512 ![0, 0] ![84, 0] ![0, 0]
    (shapeCast S300x512 (transpose S300x8x64 [1, 0, 2] w transposes_S8x300x64_S300x8x64_1_0_2) shapeCasts_S300x8x64_S300x512)
    (sitofp (F := Ideal) .f32 (constantI S_ 32 0#32)) pads_S300x512_S384x512_0840_000 h_S_) bitsLt_bf16_f32

/-- An entry of the padded embeddings: the token's, or zero past its 300. -/
theorem xpad_apply (x : Vec Ideal S2048x10x300 .f32) (r : Fin 2048) (l : Fin 10) (k : Fin 384) :
    xpad x (ix2 r ⟨384 * l.val + k.val, by omega⟩) = if h : k.val < 300 then x (ix3 r l ⟨k.val, h⟩) else 0 := by
  have h0 : FloatOps.sitofp (F := Ideal) FTy.bf16 (0#32) = 0 := by
    show (((0#32 : BitVec 32).toInt : ℝ) : EReal) = 0
    simp
  pointwise [xpad]
  rw [h0]

/-- An entry of the padded matrices: the expert's, or zero past its 300 rows. -/
theorem wcat_apply (w : Vec Ideal S8x300x64 .f32) (k : Fin 384) (e : Fin 8) (o : Fin 64) :
    wcat w (ix2 k ⟨e.val * 64 + o.val, by omega⟩) = if h : k.val < 300 then w (ix3 e ⟨k.val, h⟩ o) else 0 := by
  have h0 : FloatOps.sitofp (F := Ideal) FTy.f32 (0#32) = 0 := by
    show (((0#32 : BitVec 32).toInt : ℝ) : EReal) = 0
    simp
  have h512 : e.val * 64 + o.val < 512 := by have := e.isLt; have := o.isLt; omega
  pointwise [wcat]
  rw [h0]
  by_cases h : k.val < 300
  · rw [dif_pos ⟨h, h512⟩, dif_pos h]
  · rw [dif_neg (fun hh => h hh.1), dif_neg h]

variable (m : (ℓ : Loc nD τ sig) → Buf (Elt Ideal) ℓ)

/-- The launch finds the padded embeddings in its first operand. -/
theorem V_x (c : Dev nD) : V m c main_call0_v2 = xpad (m ((c : Thread nD τ).loc main_arg0)) := by
  dsimp only [V, V0, hostOps0, List.flatten_cons, List.flatten_nil, List.append_nil, List.cons_append, List.nil_append]
  after_results
  rfl

/-- The launch finds the padded matrices in its fifth operand. -/
theorem V_w (c : Dev nD) : V m c main_call0_v6 = wcat (m ((c : Thread nD τ).loc main_arg4)) := by
  dsimp only [V, V0, hostOps0, List.flatten_cons, List.flatten_nil, List.append_nil, List.cons_append, List.nil_append]
  after_results
  rfl

end Cert.KernelIdeal.Body

end
-- ==== Proof.RefTopTwo.lean ====
/-
  Which experts the reference keeps: it sorts the row's masked scores, takes the first two positions, and sets those two
  entries of a mask. Where two positions hold the two greatest scores, the mask is one there and zero elsewhere.
-/
module

public import proofs.«01_k».proof.Proof.RefStages
public import proofs.«01_k».proof.Proof.TopTwo
public import Idealize.ShloMosaic.Lib.Routing.OpsPair
public import Idealize.ShloMosaic.Lib.Routing.OpsSet

@[expose] public section

set_option maxRecDepth 16384

noncomputable section

namespace Cert.ReferenceIdeal.Stages

open Cert.ReferenceIdeal Cert.ReferenceIdeal.Gen Cert.ReferenceIdeal.Read Cert.Row
open Idealize.ShloMosaic

/-- The sort's comparison of two values. -/
theorem gt_eq (a b : EReal) : (FloatOps.cmpfTotal (F := Ideal) (φ := .f32) .gt a b == 1#1) = decide (b < a) := by
  rw [Ideal.cmpfTotal_def]
  by_cases h : b < a
  · simp [Ideal.cmp, CmpDirection.ordered, h]
  · simp [Ideal.cmp, CmpDirection.ordered, h]

/-- Entry `q` of the two positions a row's top-k returns: the position a stable sort by the values puts there. -/
theorem topK_position (x : S2048x8.Idx → EReal) (r : Fin 2048) (q : Fin 2) :
    (Host.topK S2048x2 1 (FloatOps.cmpfTotal (F := Ideal) (φ := .f32) .gt) x sliceFits_S2048x8_S2048x2).2 (ix2 r q)
      = BitVec.ofNat 32 (sortedFrom (fun k k' : Fin 8 => decide (x (ix2 r k') < x (ix2 r k))) (q.castLE (by decide))).val := by
  have hx (k : Fin 8) : Shape.Idx.along (s := S2048x8) (ix2 r (q.castLE (by decide) : Fin 8)) 1 k = ix2 r k := by
    funext a; match a with
    | ⟨0, _⟩ => rfl
    | ⟨1, _⟩ => rfl
  have hf : (fun k k' : Fin 8 => decide (x (ix2 r k') < x (ix2 r k)))
      = fun k k' : Fin 8 => FloatOps.cmpfTotal (F := Ideal) (φ := .f32) .gt
        (x (Shape.Idx.along (s := S2048x8) (ix2 r (q.castLE (by decide) : Fin 8)) 1 k))
        (x (Shape.Idx.along (s := S2048x8) (ix2 r (q.castLE (by decide) : Fin 8)) 1 k')) == 1#1 := by
    funext k k'
    rw [gt_eq, hx, hx]
  rw [hf]
  unfold Host.topK Host.sort2
  dsimp only
  refine (extractStridedSlice_apply (s := S2048x8) (t := S2048x2) _ _ sliceFits_S2048x8_S2048x2 (ix2 r q)
    (ix2 r (q.castLE (by decide) : Fin 8)) (fun a => ?_)).trans ?_
  rotate_left
  · rfl
  match a with
  | ⟨0, _⟩ => exact (Nat.zero_add _).symm
  | ⟨1, _⟩ => exact (Nat.zero_add _).symm

/-- A position below eight, as a word, is not negative, so the wrap-around of negative indices leaves it. -/
theorem wrap_position : ∀ p : Fin 8, Scalar.select (IntOp.cmpi .slt (BitVec.ofNat 32 p.val) 0#32)
    (IntOp.addi (BitVec.ofNat 32 p.val) 8#32) (BitVec.ofNat 32 p.val) = BitVec.ofNat 32 p.val := by decide

/-- A row number, as a word, is not negative. -/
theorem wrap_row (r : Fin 2048) : Scalar.select (IntOp.cmpi .slt (BitVec.ofNat 32 r.val) 0#32)
    (IntOp.addi (BitVec.ofNat 32 r.val) 2048#32) (BitVec.ofNat 32 r.val) = BitVec.ofNat 32 r.val := by
  revert r; decide +kernel

/-- The position the reference's sort of row `r` puts at place `q`. -/
abbrev pos (x1 : S2048x8.Idx → EReal) (x2 : S2048x8.Idx → BitVec 32) (r : Fin 2048) (q : Fin 2) : Fin 8 :=
  sortedFrom (fun k k' : Fin 8 => decide (gated (row x1 r) (row x2 r) k' < gated (row x1 r) (row x2 r) k)) (q.castLE (by decide))

/-- The two positions of a row, as words. -/
theorem indices_apply (x1 : S2048x8.Idx → EReal) (x2 : S2048x8.Idx → BitVec 32) (r : Fin 2048) (q : Fin 2) :
    val_main_indices (F := Ideal) x1 x2 (ix2 r q) = BitVec.ofNat 32 (pos x1 x2 r q).val := by
  unfold val_main_indices
  rw [topK_position]
  simp only [gated_apply]

/-- The scatter's first index word for place `q` of row `r`: the row. -/
theorem index_row (x1 : S2048x8.Idx → EReal) (x2 : S2048x8.Idx → BitVec 32) (r : Fin 2048) (q : Fin 2) :
    val_main_v46 (F := Ideal) x1 x2 (ix3 r q 0) = BitVec.ofNat 32 r.val := by
  pointwise [val_main_v46, val_main_v44, val_main_v43, val_main_v37, val_main_v36, val_main_v35, val_main_v34, val_main_v33,
    val_main_v32, val_main_v31, val_main_c_9, val_main_c_10]
  exact wrap_row r

/-- The scatter's second index word for place `q` of row `r`: the position. -/
theorem index_position (x1 : S2048x8.Idx → EReal) (x2 : S2048x8.Idx → BitVec 32) (r : Fin 2048) (q : Fin 2) :
    val_main_v46 (F := Ideal) x1 x2 (ix3 r q 1) = BitVec.ofNat 32 (pos x1 x2 r q).val := by
  pointwise [val_main_v46, val_main_v45, val_main_v42, val_main_v41, val_main_v40, val_main_v39, val_main_v38,
    val_main_c_11, val_main_c_12]
  rw [indices_apply]
  exact wrap_position _

/-- A small number, as a word, reads back as itself. -/
theorem toInt_ofNat {n : Nat} (h : n < 2048) : (BitVec.ofNat 32 n).toInt = n := by
  have hn : (BitVec.ofNat 32 n).toNat = n := by rw [BitVec.toNat_ofNat]; omega
  rw [BitVec.toInt_eq_toNat_of_lt (by omega), hn]

/-- Place `q` of row `a` lands at entry `(r, e)` of the mask exactly when the rows agree and the place's position is `e`. -/
theorem lands (x1 : S2048x8.Idx → EReal) (x2 : S2048x8.Idx → BitVec 32) (a : Fin 2048) (q : Fin 2) (r : Fin 2048) (e : Fin 8) :
    scatter_S2048x8_S2048x2x2_S2048x2_n_01_01_2.resultIdx? (ix2 a q) (val_main_v46 (F := Ideal) x1 x2) = some (ix2 r e)
      ↔ a = r ∧ pos x1 x2 a q = e := by
  refine (Routing.scatter_lands2 scatter_S2048x8_S2048x2x2_S2048x2_n_01_01_2 rfl rfl rfl (val_main_v46 (F := Ideal) x1 x2) a q r e).trans ?_
  have h0 : (val_main_v46 (F := Ideal) x1 x2 (ix3 a q 0)).toInt = a.val := by
    rw [index_row]; exact toInt_ofNat a.isLt
  have h1 : (val_main_v46 (F := Ideal) x1 x2 (ix3 a q 1)).toInt = (pos x1 x2 a q).val := by
    rw [index_position]; exact toInt_ofNat (lt_of_lt_of_le (pos x1 x2 a q).isLt (by decide))
  refine Iff.trans (and_congr (Eq.congr_left h0) (Eq.congr_left h1)) ?_
  rw [Nat.cast_inj, Nat.cast_inj, Fin.ext_iff, Fin.ext_iff]

/-- The mask the reference makes: one at the two positions its sort puts first, zero elsewhere. -/
theorem keep_apply (x1 : S2048x8.Idx → EReal) (x2 : S2048x8.Idx → BitVec 32) (r : Fin 2048) (e : Fin 8) :
    keep x1 x2 r e = if e = pos x1 x2 r 0 ∨ e = pos x1 x2 r 1 then 1 else 0 := by
  have hone : ∀ k, val_main_v47 (F := Ideal) k = 1#1 := fun k => by
    rw [val_main_v47_apply, val_main_c_13_apply]
  have hm : val_main_v48 (F := Ideal) x1 x2 (ix2 r e) = if e = pos x1 x2 r 0 ∨ e = pos x1 x2 r 1 then 1#1 else 0#1 := by
    unfold val_main_v48
    split
    · next h =>
      obtain ⟨q, hq⟩ : ∃ q, pos x1 x2 r q = e := h.elim (fun h => ⟨0, h.symm⟩) (fun h => ⟨1, h.symm⟩)
      exact Routing.scatter_set_hit _ _ _ _ _ _ (fun k _ => hone k) (ix2 r q) ((lands x1 x2 r q r e).2 ⟨rfl, hq⟩)
    · next h =>
      rw [Routing.scatter_set_miss]
      · rw [val_main_v30_apply, val_main_c_8_apply]
      · intro k hk
        rw [eq_ix2 k] at hk
        obtain ⟨ha, hq⟩ := (lands x1 x2 (k 0) (k 1) r e).1 hk
        rw [ha] at hq
        refine h ?_
        have : ∀ q : Fin 2, pos x1 x2 r q = e → e = pos x1 x2 r 0 ∨ e = pos x1 x2 r 1 := fun q hq => by
          match q, hq with
          | ⟨0, _⟩, hq => exact Or.inl hq.symm
          | ⟨1, _⟩, hq => exact Or.inr hq.symm
        exact this _ hq
  show val_main_v49 (F := Ideal) x1 x2 (ix2 r e) = _
  rw [val_main_v49_apply, hm]
  show (((if e = pos x1 x2 r 0 ∨ e = pos x1 x2 r 1 then 1#1 else 0#1 : BitVec 1).toNat : ℝ) : EReal) = _
  split <;> simp

/-- The mask is zero or one. -/
theorem keep_cases (x1 : S2048x8.Idx → EReal) (x2 : S2048x8.Idx → BitVec 32) (r : Fin 2048) (e : Fin 8) :
    keep x1 x2 r e = 0 ∨ keep x1 x2 r e = 1 := by
  rw [keep_apply]; split
  · exact Or.inr rfl
  · exact Or.inl rfl

/-- The gates of the reference are those of the kernel: its two rounds keep the experts the sort puts first, and where the
    scores are undefined every gate is zero whichever experts are kept. -/
theorem gate_keep (x1 : S2048x8.Idx → EReal) (x2 : S2048x8.Idx → BitVec 32) (r : Fin 2048) (e : Fin 8) :
    gate (gated (row x1 r) (row x2 r)) (keep x1 x2 r) e
      = gate (gated (row x1 r) (row x2 r)) (kept (gated (row x1 r) (row x2 r))) e := by
  rcases gated_cases (row x1 r) (row x2 r) with h | ⟨s, hs, h⟩
  · rw [gate_bot _ _ h (keep_cases x1 x2 r), gate_bot _ _ h (kept_cases _)]
  · obtain ⟨i, j, hij, hk⟩ := kept_topTwo (gated (row x1 r) (row x2 r)) fun e => by
      rw [h]; exact EReal.coe_nonneg.2 (hs e)
    obtain ⟨h0, h1⟩ := sortedFrom_topTwo _ i j hij
    have : keep x1 x2 r = kept (gated (row x1 r) (row x2 r)) := by
      funext e
      rw [hk, keep_apply]
      have e0 : pos x1 x2 r 0 = i := h0
      have e1 : pos x1 x2 r 1 = j := h1
      rw [e0, e1]
    rw [this]

end Cert.ReferenceIdeal.Stages

end
-- ==== Proof.Final.lean ====
/-
  The two batched outputs, entry by entry: each block's entry of the launch is the reference's entry of the batch.
-/
module

public import proofs.«01_k».proof.Proof.Guide
public import proofs.«01_k».proof.Proof.Prefix
public import proofs.«01_k».proof.Proof.RefTopTwo

@[expose] public section

set_option maxRecDepth 16384

noncomputable section

namespace Cert.KernelIdeal.Body

open Cert.KernelIdeal Cert.KernelIdeal.Gen Cert.Row
open Cert.ReferenceIdeal.Read (val_main_v63 val_main_v69 val_main_v29)
open Cert.ReferenceIdeal.Stages (keep gate_keep final_apply selection_apply)
open Idealize.ShloMosaic Idealize.ShloMosaic.TcCoe

/-- A product sum over 384 padded places is the one over the 300 real ones: zero times zero is zero. -/
theorem sum_padded (f g : Fin 300 → EReal) :
    (∑ k : Fin 384, (if h : k.val < 300 then f ⟨k.val, h⟩ else 0) * (if h : k.val < 300 then g ⟨k.val, h⟩ else 0))
      = ∑ k, f k * g k := by
  rw [show (384 : ℕ) = 300 + 84 from rfl, Fin.sum_univ_add]
  have h0 : ∀ i : Fin 84, ¬ (Fin.natAdd 300 i).val < 300 := fun i => by rw [Fin.val_natAdd]; omega
  rw [Finset.sum_eq_zero (s := Finset.univ) (f := fun i : Fin 84 => _) fun i _ => by
    rw [dif_neg (h0 i), dif_neg (h0 i), mul_zero], add_zero]
  refine Finset.sum_congr rfl fun k _ => ?_
  have hk : (Fin.castAdd 84 k).val < 300 := k.isLt
  rw [dif_pos hk, dif_pos hk]
  rfl

/-- Gating the experts' products and the biases apart is gating their sums: the gates are finite and not negative. -/
theorem gate_sum (g y b : Fin 8 → EReal) (hg : ∀ e, ∃ r : ℝ, 0 ≤ r ∧ g e = r) :
    (∑ e, y e * g e) + ∑ e, g e * b e = ∑ e, g e * (y e + b e) := by
  rw [← Finset.sum_add_distrib]
  refine Finset.sum_congr rfl fun e _ => ?_
  obtain ⟨r, hr, h⟩ := hg e
  rw [h, EReal.left_distrib_of_nonneg_of_ne_top (EReal.coe_nonneg.2 hr) (EReal.coe_ne_top r), mul_comm (y e)]

variable (m : (ℓ : Loc nD τ sig) → Buf (Elt Ideal) ℓ)

/-- The arguments, as plain functions of their indices. -/
abbrev a0 (c : Dev nD) : S2048x10x300.Idx → EReal := m ((c : Thread nD τ).loc main_arg0)
abbrev a1 (c : Dev nD) : S2048x8.Idx → EReal := m ((c : Thread nD τ).loc main_arg1)
abbrev a2 (c : Dev nD) : S2048x8.Idx → BitVec 32 := m ((c : Thread nD τ).loc main_arg2)
abbrev a3 (c : Dev nD) : S2048x8x128.Idx → EReal := m ((c : Thread nD τ).loc main_arg3)
abbrev a4 (c : Dev nD) : S8x300x64.Idx → EReal := m ((c : Thread nD τ).loc main_arg4)
abbrev a5 (c : Dev nD) : S8x64.Idx → EReal := m ((c : Thread nD τ).loc main_arg5)

/-- An entry of a block of the embeddings: the token's, or zero past its 300. -/
theorem x_entry (c : Dev nD) (t : Fin cfg0.N) (r : Fin 256) (l : Fin 10) (k : Fin 384) :
    b0 m c t (ix2 r ⟨384 * l.val + k.val, by omega⟩)
      = if h : k.val < 300 then a0 m c (ix3 (gr t r) l ⟨k.val, h⟩) else 0 :=
  (b0_apply m c t r _).trans ((congrFun (V_x m c) _).trans (xpad_apply _ (gr t r) l k))

/-- An entry of the experts' matrices: the expert's, or zero past its 300 rows. -/
theorem w_entry (c : Dev nD) (t : Fin cfg0.N) (k : Fin 384) (e : Fin 8) (o : Fin 64) :
    b4 m c t (ix2 k ⟨e.val * 64 + o.val, by omega⟩)
      = if h : k.val < 300 then a4 m c (ix3 e ⟨k.val, h⟩ o) else 0 :=
  (b4_apply m c t k _).trans ((congrFun (V_w m c) _).trans (wcat_apply _ k e o))

/-- The product of a token and an expert's matrix, from the padded block. -/
theorem product_entry (c : Dev nD) (t : Fin cfg0.N) (r : Fin 256) (l : Fin 10) (e : Fin 8) (o : Fin 64) :
    (∑ k : Fin 384, b0 m c t (ix2 r ⟨384 * l.val + k.val, by omega⟩) * b4 m c t (ix2 k ⟨e.val * 64 + o.val, by omega⟩))
      = ∑ k : Fin 300, a4 m c (ix3 e k o) * a0 m c (ix3 (gr t r) l k) := by
  simp only [x_entry, w_entry]
  rw [sum_padded (fun k => a0 m c (ix3 (gr t r) l k)) (fun k => a4 m c (ix3 e k o))]
  exact Finset.sum_congr rfl fun k _ => mul_comm _ _

/-- An entry of a block of the launch's first output is the reference's entry of the batch. -/
theorem out_entry (c : Dev nD) (t : Fin cfg0.N) (r : Fin 256) (l : Fin 10) (o : Fin 64) :
    outBlk (F := Ideal) (b0 m c t) (b1 m c t) (b2 m c t) (b4 m c t) (b5 m c t) (ix3 r l o)
      = val_main_v63 (F := Ideal) (a0 m c) (a1 m c) (a2 m c) (a4 m c) (a5 m c) (ix3 (gr t r) l o) := by
  rw [outBlk_apply, final_apply, row_b1, row_b2]
  rw [gate_sum _ _ _ fun e => gate_real _ _ _ (kept_cases _) e]
  refine Finset.sum_congr rfl fun e _ => ?_
  rw [gate_keep, product_entry, b5_apply]

/-- An entry of a block of the selection embedding is the reference's entry of the batch. -/
theorem sel_entry (c : Dev nD) (t : Fin cfg0.N) (r : Fin 256) (o : Fin 128) :
    selBlk (F := Ideal) (b1 m c t) (b2 m c t) (b3 m c t) (ix2 r o)
      = val_main_v29 (F := Ideal) (a1 m c) (a2 m c) (a3 m c) (ix2 (gr t r) o) := by
  rw [selBlk_apply, selection_apply, row_b1, row_b2]
  refine Finset.sum_congr rfl fun e _ => ?_
  rw [b3_apply]
  exact mul_comm _ _

end Cert.KernelIdeal.Body

end
-- ==== Proof.Arrays.lean ====
/-
  The result arrays after the launch and the run of the whole program with its three results: the reference's functions of
  the arguments.
-/
module

public import proofs.«01_k».proof.Proof.Final
public import Idealize.ShloMosaic.Lib.Pipeline.Value

@[expose] public section

set_option maxRecDepth 16384

noncomputable section

namespace Cert.KernelIdeal.Body

open Cert.KernelIdeal Cert.KernelIdeal.Gen Cert.Row
open Cert.ReferenceIdeal.Read (val_main_v63 val_main_v69 val_main_v29)
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The three results, as the reference's functions of the arguments -/

/-- The gated sum of the experts. -/
def out (c : Dev nD) : Buf (Elt Ideal) ((c : Thread nD τ).loc main_v0_0) :=
  val_main_v63 (F := Ideal) (a0 m c) (a1 m c) (a2 m c) (a4 m c) (a5 m c)
/-- The guidance loss. -/
def guide (c : Dev nD) : Buf (Elt Ideal) ((c : Thread nD τ).loc main_v0_1) :=
  val_main_v69 (F := Ideal) (a1 m c) (a2 m c)
/-- The selection embedding. -/
def sel (c : Dev nD) : Buf (Elt Ideal) ((c : Thread nD τ).loc main_v0_2) :=
  val_main_v29 (F := Ideal) (a1 m c) (a2 m c) (a3 m c)

/-- The loss as the launch leaves it, in an array of one entry. -/
def guideCell (c : Dev nD) : Buf (Elt Ideal) ((c : Thread nD τ).loc main_call0_v7_1) :=
  fun _ => Cert.ReferenceIdeal.Stages.loss (∑ r, ∑ e, gated (logits m c r) (masks m c r) e)

/-- The point whose block holds row `r`. -/
abbrev pointOf (r : Fin 2048) : Fin cfg0.N :=
  ⟨r.val / 256, Nat.lt_of_lt_of_eq (by have := r.isLt; omega : r.val / 256 < 8) N_0.symm⟩

/-- A row's place in its block. -/
abbrev inBlock (r : Fin 2048) : Fin 256 := ⟨r.val % 256, Nat.mod_lt _ (by decide)⟩

/-- A row is found at its place in its point's block. -/
theorem gr_pointOf (r : Fin 2048) : gr (pointOf r) (inBlock r) = r :=
  Fin.ext (Nat.div_add_mod r.val 256)

/-- What each point writes back to the first output is its block of the reference's. -/
theorem flushed6 (c : Dev nD) (t : Fin cfg0.N) :
    (dats m 0 c).flushed 6 t = ((cfg0.win 6).blk t).view.read (Elt Ideal) (out m c) := by
  show (cfg0.win 6).cut (grid0.coords t) ((dats m 0 c).after 6 t) = _
  rw [after_6]
  have h : ∀ y : S256x10x64.Idx, outBlk (F := Ideal) (b0 m c t) (b1 m c t) (b2 m c t) (b4 m c t) (b5 m c t) y
      = out m c (((cfg0.win 6).blk t).view.emb y) := fun y => by
    obtain ⟨r, l, o, rfl⟩ : ∃ r l o, y = ix3 r l o := ⟨y 0, y 1, y 2, eq_ix3 y⟩
    exact (out_entry m c t r l o).trans (congrArg (out m c) (emb6 t r l o).symm)
  exact funext h

/-- Every entry of the first output is in some point's block. -/
theorem covered6 (i : S2048x10x64.Idx) :
    ∃ t : Fin cfg0.N, (cfg0.win 6).flush t = true ∧ i ∈ ((cfg0.win 6).blk t).view.set :=
by
  obtain ⟨r, l, o, rfl⟩ : ∃ r l o, i = ix3 r l o := ⟨i 0, i 1, i 2, eq_ix3 i⟩
  have h := ((cfg0.win 6).blk (pointOf r)).view.emb_mem_set (ix3 (inBlock r) l o)
  have e : ((cfg0.win 6).blk (pointOf r)).view.emb (ix3 (inBlock r) l o) = ix3 r l o :=
    (emb6 (pointOf r) (inBlock r) l o).trans (congrArg (fun z => ix3 z l o) (gr_pointOf r))
  exact ⟨pointOf r, flush0_6 _, e ▸ h⟩

/-- The first output after the launch. -/
theorem final6 (c : Dev nD) : (dats m 0 c).arrAt 6 cfg0.N = out m c :=
  (dats m 0 c).arrAt_eq_of_cover 6 (out m c) (fun t _ => flushed6 m c t) covered6

/-- What each point writes back to the selection embedding is its block of the reference's. -/
theorem flushed8 (c : Dev nD) (t : Fin cfg0.N) :
    (dats m 0 c).flushed 8 t = ((cfg0.win 8).blk t).view.read (Elt Ideal) (sel m c) := by
  show (cfg0.win 8).cut (grid0.coords t) ((dats m 0 c).after 8 t) = _
  rw [after_8]
  have h : ∀ y : S256x128.Idx, selBlk (F := Ideal) (b1 m c t) (b2 m c t) (b3 m c t) y
      = sel m c (((cfg0.win 8).blk t).view.emb y) := fun y => by
    obtain ⟨r, o, rfl⟩ : ∃ r o, y = ix2 r o := ⟨y 0, y 1, eq_ix2 y⟩
    exact (sel_entry m c t r o).trans (congrArg (sel m c) (emb8 t r o).symm)
  exact funext h

/-- Every entry of the selection embedding is in some point's block. -/
theorem covered8 (i : S2048x128.Idx) :
    ∃ t : Fin cfg0.N, (cfg0.win 8).flush t = true ∧ i ∈ ((cfg0.win 8).blk t).view.set :=
by
  obtain ⟨r, o, rfl⟩ : ∃ r o, i = ix2 r o := ⟨i 0, i 1, eq_ix2 i⟩
  have h := ((cfg0.win 8).blk (pointOf r)).view.emb_mem_set (ix2 (inBlock r) o)
  have e : ((cfg0.win 8).blk (pointOf r)).view.emb (ix2 (inBlock r) o) = ix2 r o :=
    (emb8 (pointOf r) (inBlock r) o).trans (congrArg (fun z => ix2 z o) (gr_pointOf r))
  exact ⟨pointOf r, flush0_8 _, e ▸ h⟩

/-- The selection embedding after the launch. -/
theorem final8 (c : Dev nD) : (dats m 0 c).arrAt 8 cfg0.N = sel m c :=
  (dats m 0 c).arrAt_eq_of_cover 8 (sel m c) (fun t _ => flushed8 m c t) covered8

/-- The one write-back of the loss, at the last point, writes the loss. -/
theorem flushed7 (c : Dev nD) (t : Fin cfg0.N) (hf : (cfg0.win 7).flush t = true) :
    (dats m 0 c).flushed 7 t = ((cfg0.win 7).blk t).view.read (Elt Ideal) (guideCell m c) := by
  show (cfg0.win 7).cut (grid0.coords t) ((dats m 0 c).after 7 t) = _
  rw [after_7]
  obtain ⟨n, hn⟩ := t
  obtain rfl : n = 7 := of_decide_eq_true ((flush7 ⟨n, hn⟩).symm.trans hf)
  have h : ∀ y : S1x1.Idx, guideAt m c 7 hn y
      = guideCell m c (((cfg0.win 7).blk ⟨7, hn⟩).view.emb y) := fun y => by
    rw [eq_ix2 y]
    exact guideAt_last m c hn (y 0) (y 1)
  exact funext h

/-- The last point. -/
abbrev t7 : Fin cfg0.N := ⟨7, Nat.lt_of_lt_of_eq (by decide : 7 < 8) N_0.symm⟩

/-- The loss's one entry is in the last point's block. -/
theorem covered7 (i : S1x1.Idx) :
    ∃ t : Fin cfg0.N, (cfg0.win 7).flush t = true ∧ i ∈ ((cfg0.win 7).blk t).view.set :=
by
  obtain ⟨a, b, rfl⟩ : ∃ a b, i = ix2 a b := ⟨i 0, i 1, eq_ix2 i⟩
  have h := ((cfg0.win 7).blk t7).view.emb_mem_set (ix2 a b)
  exact ⟨t7, (flush7 t7).trans (decide_eq_true rfl), (emb7 t7 a b) ▸ h⟩

/-- The loss's array after the launch. -/
theorem final7 (c : Dev nD) : (dats m 0 c).arrAt 7 cfg0.N = guideCell m c :=
  (dats m 0 c).arrAt_eq_of_cover 7 (guideCell m c) (flushed7 m c) covered7

/-- No two windows stage one array. -/
theorem arr_inj : Function.Injective (Pipeline.arrRef spec0) :=
  (by decide : ∀ w w', Pipeline.arrRef spec0 w = Pipeline.arrRef spec0 w' → w = w')

/-- The host's last operation takes the loss out of its array of one entry. -/
theorem tail_guide (c : Dev nD) :
    Pipeline.afterTail₀ cfgs (dats m) 0 (V0 m) [hostOps1] c main_v0_1 = guide m c := by
  unfold Pipeline.afterTail₀
  dsimp only [hostOps1, List.flatten_cons, List.flatten_nil, List.append_nil, List.cons_append, List.nil_append]
  after_results
  funext i
  have h : Pipeline.withArrays (cfgs 0).spec c (V0 m c) (fun w => (dats m 0 c).arrAt w (cfgs 0).N)
      (Proc.tc.devRef main_call0_v7_1) = guideCell m c :=
    (Pipeline.withArrays_arr (cfgs 0).spec arr_inj c (V0 m c) (fun w => (dats m 0 c).arrAt w (cfgs 0).N) 7).trans (final7 m c)
  refine (?_ : shapeCast S_ (Pipeline.withArrays (cfgs 0).spec c (V0 m c) (fun w => (dats m 0 c).arrAt w (cfgs 0).N)
      (Proc.tc.devRef main_call0_v7_1)) shapeCasts_S1x1_S_ i = guide m c i)
  rw [h]
  exact (Cert.ReferenceIdeal.Stages.loss_apply (a1 m c) (a2 m c) i).symm

/-- Every execution ends with the three results at the reference's functions of the arguments, and the arguments unchanged. -/
theorem run_values : θ_run defs (onTc (τ := τ) (main (F := Ideal))) ⟨m, fun _ => 0, ρ⟩ (fun r => ∀ c : Dev nD,
      r.2.mem ((c.tc : Thread nD τ).loc main_v0_0) = out m c
      ∧ r.2.mem ((c.tc : Thread nD τ).loc main_v0_1) = guide m c
      ∧ r.2.mem ((c.tc : Thread nD τ).loc main_v0_2) = sel m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 6).trans (final6 m c),
    ((h.1 c).2 main_v0_1 (Pipeline.mem_restRefs_of main_v0_1 (by decide) (by decide))).trans (tail_guide m c),
    ((h.1 c).1 8).trans (final8 m c), h.2.1 c⟩) (θ_run_and (run_main m ρ) (frame m ρ))

end Cert.KernelIdeal.Body

end
-- ==== Proof.RefRun.lean ====
/-
  The reference's run: its results, and its frame. It has no counter, so each is at zero at its end.
-/
module

public import proofs.«01_k».proof.Proof.RefStages
public import Idealize.ShloMosaic.Lib.Quiescent

@[expose] public section

noncomputable section

namespace Cert.ReferenceIdeal.Stages

open Cert.ReferenceIdeal Cert.ReferenceIdeal.Gen Cert.ReferenceIdeal.Read
open Idealize.ShloMosaic Idealize.SL.Sem

variable (m : (ℓ : Loc nD τ sig) → Buf (Elt Ideal) ℓ) (ρ : Dev nD → PrngReg)

/-- Every execution of the reference ends with its three results at its named functions of the arguments, and the arguments
    unchanged. -/
theorem run_values : θ_run defs (onTc (τ := τ) (main (F := Ideal))) ⟨m, fun _ => 0, ρ⟩ (fun r => ∀ c : Dev nD,
      r.2.mem ((c.tc : Thread nD τ).loc main_v63)
        = val_main_v63 (F := Ideal) (m ((c.tc : Thread nD τ).loc main_arg0)) (m ((c.tc : Thread nD τ).loc main_arg1))
          (m ((c.tc : Thread nD τ).loc main_arg2)) (m ((c.tc : Thread nD τ).loc main_arg4)) (m ((c.tc : Thread nD τ).loc main_arg5))
      ∧ r.2.mem ((c.tc : Thread nD τ).loc main_v69)
        = val_main_v69 (F := Ideal) (m ((c.tc : Thread nD τ).loc main_arg1)) (m ((c.tc : Thread nD τ).loc main_arg2))
      ∧ r.2.mem ((c.tc : Thread nD τ).loc main_v29)
        = val_main_v29 (F := Ideal) (m ((c.tc : Thread nD τ).loc main_arg1)) (m ((c.tc : Thread nD τ).loc main_arg2))
          (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (val_main_v63_eq m c), (h c).2.1.trans (val_main_v69_eq _ _),
    (h c).2.2.1.trans (val_main_v29_eq _ _ _), (h c).2.2.2⟩) (Cert.ReferenceIdeal.Value.run m ρ)

/-- The reference's frame: every execution ends with the arguments unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2.2.2, sem_eq_zero_of_no_sems (by decide) r.2⟩)
    (Cert.ReferenceIdeal.Value.run m ρ)

end Cert.ReferenceIdeal.Stages

end
-- ==== Proof.lean ====
/-
  The proof of the certificate's claim, put together: the kernel runs and leaves its arguments, over bits and over the
  extended reals; so does the reference; and over the extended reals the two give the same three results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.SameProgram
public import proofs.«01_k».proof.Proof.Arrays
public import proofs.«01_k».proof.Proof.RefRun

@[expose] public section

noncomputable section

namespace Cert.Proof

open Idealize.ShloMosaic Idealize.SL.Sem

/-- The kernel over bits runs to its end, leaves its arguments and every counter at zero. -/
theorem kernel_frame : quiescent_Kernel (hKernel := Cert.Kernel.Gen.facts) := fun m g _ =>
  Cert.SameProgram.frame (F := Bits) m g

/-- The kernel over the extended reals does. -/
theorem kernelIdeal_frame : quiescent_KernelIdeal (hKernelIdeal := Cert.KernelIdeal.Gen.facts) := fun m g _ =>
  Cert.KernelIdeal.Body.frame (F := Ideal) m g

/-- The reference over the extended reals does. -/
theorem reference_frame : quiescent_ReferenceIdeal (hReferenceIdeal := Cert.ReferenceIdeal.Gen.facts) := fun m g _ =>
  Cert.ReferenceIdeal.Stages.frame m g

/-- The kernel and the reference give the same three results over the extended reals. -/
theorem results_equal : algebraic_KernelIdeal_ReferenceIdeal (hKernelIdeal := Cert.KernelIdeal.Gen.facts)
    (hReferenceIdeal := Cert.ReferenceIdeal.Gen.facts) := fun m g m' g' _ hm =>
  ⟨Cert.KernelIdeal.Body.out m, Cert.KernelIdeal.Body.guide m, Cert.KernelIdeal.Body.sel m,
    Cert.KernelIdeal.Body.run_values m g,
    (θ_run Cert.ReferenceIdeal.defs _ _).mono (fun r h c => by
      obtain ⟨h63, h69, h29, hargs⟩ := h c
      obtain ⟨e0, e1, e2, e3, e4, e5⟩ := hm c
      refine ⟨h63.trans ?_, h69.trans ?_, h29.trans ?_, hargs⟩
      · rw [e0, e1, e2, e4, e5]; rfl
      · rw [e1, e2]; rfl
      · rw [e1, e2, e3]; rfl) (Cert.ReferenceIdeal.Stages.run_values m' g')⟩

/-- Everything that is claimed. -/
theorem claim : Cert.Claim := ⟨Cert.Kernel.Gen.facts, Cert.KernelIdeal.Gen.facts, Cert.ReferenceIdeal.Gen.facts,
  kernel_frame, kernelIdeal_frame, reference_frame, trivial, results_equal⟩

end Cert.Proof

end
